-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S4096x2048 : Shape := ⟨2, ![4096, 2048]⟩
abbrev S2x128x2048 : Shape := ⟨3, ![2, 128, 2048]⟩
abbrev S2 : Shape := ⟨1, ![2]⟩
abbrev S_ : Shape := ⟨0, ![]⟩
abbrev S512x128 : Shape := ⟨2, ![512, 128]⟩
abbrev S512x2048 : Shape := ⟨2, ![512, 2048]⟩
abbrev S1x128x2048 : Shape := ⟨3, ![1, 128, 2048]⟩
abbrev S1 : Shape := ⟨1, ![1]⟩
abbrev S1x512x2048 : Shape := ⟨3, ![1, 512, 2048]⟩
abbrev S1x1x1 : Shape := ⟨3, ![1, 1, 1]⟩

abbrev nBuf : Space → Nat
  | .hbm => 3
  | .vmem => 4
  | .smem => 0
  | _ => 0

abbrev bufTy : (tb : Table) → Fin (tcTables nBuf tb) → BufTy
  | .hbm, ⟨0, _⟩ => ⟨S4096x128, .bf16⟩
  | .hbm, ⟨1, _⟩ => ⟨S128x2048, .bf16⟩
  | .hbm, ⟨2, _⟩ => ⟨S4096x2048, .f32⟩
  | .local _ .vmem, ⟨0, _⟩ => ⟨S4096x128, .bf16⟩
  | .local _ .vmem, ⟨1, _⟩ => ⟨S128x2048, .bf16⟩
  | .local _ .vmem, ⟨2, _⟩ => ⟨S4096x2048, .f32⟩
  | .local _ .vmem, ⟨3, _⟩ => ⟨S2x128x2048, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 3 → Bool
  | ⟨0, _⟩ => true
  | ⟨1, _⟩ => false
  | ⟨2, _⟩ => true
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 3 7 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v47 : BitVec 32 := Scalar.muli v2 c128_i32
  let v48 : Index := Scalar.indexCast v47
  let c0_43 : Index := 0#32
  ![v48.toNat, 0]
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_51 : BitVec 32 := 1#32
  let v54 : BitVec 32 := Scalar.muli v7 c1_i32_51
  let v55 : BitVec 32 := Scalar.addi c0_i32_52 v54
  v55.toNat
def k0_off2 (d0 : Dev nD) (c0_i32_76 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v78 : BitVec 32 := Scalar.subi v2 c0_i32_76
  let c1_i32_77 : BitVec 32 := 1#32
  let v79 : BitVec 32 := Scalar.subi v78 c1_i32_77
  let c32_i32_78 : BitVec 32 := 32#32
  let v80 : BitVec 32 := Scalar.addi v79 c32_i32_78
  let c32_i32_79 : BitVec 32 := 32#32
  let v81 : BitVec 32 := Scalar.remsi v80 c32_i32_79
  let c128_i32_82 : BitVec 32 := 128#32
  let v84 : BitVec 32 := Scalar.muli v81 c128_i32_82
  let v85 : Index := Scalar.indexCast v84
  let c0_83 : Index := 0#32
  ![v85.toNat, 0]
def k0_dev4 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_88 : BitVec 32 := 1#32
  let v92 : BitVec 32 := Scalar.muli v5 c1_i32_88
  let v93 : BitVec 32 := Scalar.addi c0_i32_89 v92
  v93.toNat
def k0_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_96 : BitVec 32 := 1#32
  let v94 : BitVec 32 := Scalar.muli v7 c1_i32_96
  let v95 : BitVec 32 := Scalar.addi c0_i32_97 v94
  v95.toNat
def k0_dev6 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_134 : BitVec 32 := 1#32
  let v132 : BitVec 32 := Scalar.muli v5 c1_i32_134
  let v133 : BitVec 32 := Scalar.addi c0_i32_135 v132
  v133.toNat
def k0_dev7 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_142 : BitVec 32 := 1#32
  let v134 : BitVec 32 := Scalar.muli v7 c1_i32_142
  let v135 : BitVec 32 := Scalar.addi c0_i32_143 v134
  v135.toNat
def k0_dev8 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_180 : BitVec 32 := 1#32
  let v172 : BitVec 32 := Scalar.muli v5 c1_i32_180
  let v173 : BitVec 32 := Scalar.addi c0_i32_181 v172
  v173.toNat
def k0_dev9 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_188 : BitVec 32 := 1#32
  let v174 : BitVec 32 := Scalar.muli v7 c1_i32_188
  let v175 : BitVec 32 := Scalar.addi c0_i32_189 v174
  v175.toNat
def k0_dev10 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_225 : BitVec 32 := 1#32
  let v212 : BitVec 32 := Scalar.muli v5 c1_i32_225
  let v213 : BitVec 32 := Scalar.addi c0_i32_226 v212
  v213.toNat
def k0_dev11 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_233 : BitVec 32 := 1#32
  let v214 : BitVec 32 := Scalar.muli v7 c1_i32_233
  let v215 : BitVec 32 := Scalar.addi c0_i32_234 v214
  v215.toNat
def k0_dev12 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_270 : BitVec 32 := 1#32
  let v252 : BitVec 32 := Scalar.muli v5 c1_i32_270
  let v253 : BitVec 32 := Scalar.addi c0_i32_271 v252
  v253.toNat
def k0_dev13 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_278 : BitVec 32 := 1#32
  let v254 : BitVec 32 := Scalar.muli v7 c1_i32_278
  let v255 : BitVec 32 := Scalar.addi c0_i32_279 v254
  v255.toNat
def k0_dev14 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_315 : BitVec 32 := 1#32
  let v292 : BitVec 32 := Scalar.muli v5 c1_i32_315
  let v293 : BitVec 32 := Scalar.addi c0_i32_316 v292
  v293.toNat
def k0_dev15 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_323 : BitVec 32 := 1#32
  let v294 : BitVec 32 := Scalar.muli v7 c1_i32_323
  let v295 : BitVec 32 := Scalar.addi c0_i32_324 v294
  v295.toNat
def k0_dev16 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_360 : BitVec 32 := 1#32
  let v332 : BitVec 32 := Scalar.muli v5 c1_i32_360
  let v333 : BitVec 32 := Scalar.addi c0_i32_361 v332
  v333.toNat
def k0_dev17 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_368 : BitVec 32 := 1#32
  let v334 : BitVec 32 := Scalar.muli v7 c1_i32_368
  let v335 : BitVec 32 := Scalar.addi c0_i32_369 v334
  v335.toNat
def k0_dev18 (d0 : Dev nD) : Nat :=
  let c0_i32_406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_405 : BitVec 32 := 1#32
  let v372 : BitVec 32 := Scalar.muli v5 c1_i32_405
  let v373 : BitVec 32 := Scalar.addi c0_i32_406 v372
  v373.toNat
def k0_dev19 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_413 : BitVec 32 := 1#32
  let v374 : BitVec 32 := Scalar.muli v7 c1_i32_413
  let v375 : BitVec 32 := Scalar.addi c0_i32_414 v374
  v375.toNat
def k0_dev20 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_450 : BitVec 32 := 1#32
  let v412 : BitVec 32 := Scalar.muli v5 c1_i32_450
  let v413 : BitVec 32 := Scalar.addi c0_i32_451 v412
  v413.toNat
def k0_dev21 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_458 : BitVec 32 := 1#32
  let v414 : BitVec 32 := Scalar.muli v7 c1_i32_458
  let v415 : BitVec 32 := Scalar.addi c0_i32_459 v414
  v415.toNat
def k0_dev22 (d0 : Dev nD) : Nat :=
  let c0_i32_496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_495 : BitVec 32 := 1#32
  let v452 : BitVec 32 := Scalar.muli v5 c1_i32_495
  let v453 : BitVec 32 := Scalar.addi c0_i32_496 v452
  v453.toNat
def k0_dev23 (d0 : Dev nD) : Nat :=
  let c0_i32_504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_503 : BitVec 32 := 1#32
  let v454 : BitVec 32 := Scalar.muli v7 c1_i32_503
  let v455 : BitVec 32 := Scalar.addi c0_i32_504 v454
  v455.toNat
def k0_dev24 (d0 : Dev nD) : Nat :=
  let c0_i32_541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_540 : BitVec 32 := 1#32
  let v492 : BitVec 32 := Scalar.muli v5 c1_i32_540
  let v493 : BitVec 32 := Scalar.addi c0_i32_541 v492
  v493.toNat
def k0_dev25 (d0 : Dev nD) : Nat :=
  let c0_i32_549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_548 : BitVec 32 := 1#32
  let v494 : BitVec 32 := Scalar.muli v7 c1_i32_548
  let v495 : BitVec 32 := Scalar.addi c0_i32_549 v494
  v495.toNat
def k0_dev26 (d0 : Dev nD) : Nat :=
  let c0_i32_586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_585 : BitVec 32 := 1#32
  let v532 : BitVec 32 := Scalar.muli v5 c1_i32_585
  let v533 : BitVec 32 := Scalar.addi c0_i32_586 v532
  v533.toNat
def k0_dev27 (d0 : Dev nD) : Nat :=
  let c0_i32_594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_593 : BitVec 32 := 1#32
  let v534 : BitVec 32 := Scalar.muli v7 c1_i32_593
  let v535 : BitVec 32 := Scalar.addi c0_i32_594 v534
  v535.toNat
def k0_dev28 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_630 : BitVec 32 := 1#32
  let v572 : BitVec 32 := Scalar.muli v5 c1_i32_630
  let v573 : BitVec 32 := Scalar.addi c0_i32_631 v572
  v573.toNat
def k0_dev29 (d0 : Dev nD) : Nat :=
  let c0_i32_639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_638 : BitVec 32 := 1#32
  let v574 : BitVec 32 := Scalar.muli v7 c1_i32_638
  let v575 : BitVec 32 := Scalar.addi c0_i32_639 v574
  v575.toNat
def k0_dev30 (d0 : Dev nD) : Nat :=
  let c0_i32_676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_675 : BitVec 32 := 1#32
  let v612 : BitVec 32 := Scalar.muli v5 c1_i32_675
  let v613 : BitVec 32 := Scalar.addi c0_i32_676 v612
  v613.toNat
def k0_dev31 (d0 : Dev nD) : Nat :=
  let c0_i32_684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_683 : BitVec 32 := 1#32
  let v614 : BitVec 32 := Scalar.muli v7 c1_i32_683
  let v615 : BitVec 32 := Scalar.addi c0_i32_684 v614
  v615.toNat
def k0_dev32 (d0 : Dev nD) : Nat :=
  let c0_i32_721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_720 : BitVec 32 := 1#32
  let v652 : BitVec 32 := Scalar.muli v5 c1_i32_720
  let v653 : BitVec 32 := Scalar.addi c0_i32_721 v652
  v653.toNat
def k0_dev33 (d0 : Dev nD) : Nat :=
  let c0_i32_729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_728 : BitVec 32 := 1#32
  let v654 : BitVec 32 := Scalar.muli v7 c1_i32_728
  let v655 : BitVec 32 := Scalar.addi c0_i32_729 v654
  v655.toNat
def k0_dev34 (d0 : Dev nD) : Nat :=
  let c0_i32_766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_765 : BitVec 32 := 1#32
  let v692 : BitVec 32 := Scalar.muli v5 c1_i32_765
  let v693 : BitVec 32 := Scalar.addi c0_i32_766 v692
  v693.toNat
def k0_dev35 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_773 : BitVec 32 := 1#32
  let v694 : BitVec 32 := Scalar.muli v7 c1_i32_773
  let v695 : BitVec 32 := Scalar.addi c0_i32_774 v694
  v695.toNat
def k0_dev36 (d0 : Dev nD) : Nat :=
  let c0_i32_811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_810 : BitVec 32 := 1#32
  let v732 : BitVec 32 := Scalar.muli v5 c1_i32_810
  let v733 : BitVec 32 := Scalar.addi c0_i32_811 v732
  v733.toNat
def k0_dev37 (d0 : Dev nD) : Nat :=
  let c0_i32_819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_818 : BitVec 32 := 1#32
  let v734 : BitVec 32 := Scalar.muli v7 c1_i32_818
  let v735 : BitVec 32 := Scalar.addi c0_i32_819 v734
  v735.toNat
def k0_dev38 (d0 : Dev nD) : Nat :=
  let c0_i32_856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_855 : BitVec 32 := 1#32
  let v772 : BitVec 32 := Scalar.muli v5 c1_i32_855
  let v773 : BitVec 32 := Scalar.addi c0_i32_856 v772
  v773.toNat
def k0_dev39 (d0 : Dev nD) : Nat :=
  let c0_i32_864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_863 : BitVec 32 := 1#32
  let v774 : BitVec 32 := Scalar.muli v7 c1_i32_863
  let v775 : BitVec 32 := Scalar.addi c0_i32_864 v774
  v775.toNat
def k0_dev40 (d0 : Dev nD) : Nat :=
  let c0_i32_901 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_900 : BitVec 32 := 1#32
  let v812 : BitVec 32 := Scalar.muli v5 c1_i32_900
  let v813 : BitVec 32 := Scalar.addi c0_i32_901 v812
  v813.toNat
def k0_dev41 (d0 : Dev nD) : Nat :=
  let c0_i32_909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_908 : BitVec 32 := 1#32
  let v814 : BitVec 32 := Scalar.muli v7 c1_i32_908
  let v815 : BitVec 32 := Scalar.addi c0_i32_909 v814
  v815.toNat
def k0_dev42 (d0 : Dev nD) : Nat :=
  let c0_i32_946 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_945 : BitVec 32 := 1#32
  let v852 : BitVec 32 := Scalar.muli v5 c1_i32_945
  let v853 : BitVec 32 := Scalar.addi c0_i32_946 v852
  v853.toNat
def k0_dev43 (d0 : Dev nD) : Nat :=
  let c0_i32_954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_953 : BitVec 32 := 1#32
  let v854 : BitVec 32 := Scalar.muli v7 c1_i32_953
  let v855 : BitVec 32 := Scalar.addi c0_i32_954 v854
  v855.toNat
def k0_dev44 (d0 : Dev nD) : Nat :=
  let c0_i32_991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_990 : BitVec 32 := 1#32
  let v892 : BitVec 32 := Scalar.muli v5 c1_i32_990
  let v893 : BitVec 32 := Scalar.addi c0_i32_991 v892
  v893.toNat
def k0_dev45 (d0 : Dev nD) : Nat :=
  let c0_i32_999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_998 : BitVec 32 := 1#32
  let v894 : BitVec 32 := Scalar.muli v7 c1_i32_998
  let v895 : BitVec 32 := Scalar.addi c0_i32_999 v894
  v895.toNat
def k0_dev46 (d0 : Dev nD) : Nat :=
  let c0_i32_1036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1035 : BitVec 32 := 1#32
  let v932 : BitVec 32 := Scalar.muli v5 c1_i32_1035
  let v933 : BitVec 32 := Scalar.addi c0_i32_1036 v932
  v933.toNat
def k0_dev47 (d0 : Dev nD) : Nat :=
  let c0_i32_1044 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1043 : BitVec 32 := 1#32
  let v934 : BitVec 32 := Scalar.muli v7 c1_i32_1043
  let v935 : BitVec 32 := Scalar.addi c0_i32_1044 v934
  v935.toNat
def k0_dev48 (d0 : Dev nD) : Nat :=
  let c0_i32_1081 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1080 : BitVec 32 := 1#32
  let v972 : BitVec 32 := Scalar.muli v5 c1_i32_1080
  let v973 : BitVec 32 := Scalar.addi c0_i32_1081 v972
  v973.toNat
def k0_dev49 (d0 : Dev nD) : Nat :=
  let c0_i32_1089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1088 : BitVec 32 := 1#32
  let v974 : BitVec 32 := Scalar.muli v7 c1_i32_1088
  let v975 : BitVec 32 := Scalar.addi c0_i32_1089 v974
  v975.toNat
def k0_dev50 (d0 : Dev nD) : Nat :=
  let c0_i32_1126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1125 : BitVec 32 := 1#32
  let v1012 : BitVec 32 := Scalar.muli v5 c1_i32_1125
  let v1013 : BitVec 32 := Scalar.addi c0_i32_1126 v1012
  v1013.toNat
def k0_dev51 (d0 : Dev nD) : Nat :=
  let c0_i32_1134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1133 : BitVec 32 := 1#32
  let v1014 : BitVec 32 := Scalar.muli v7 c1_i32_1133
  let v1015 : BitVec 32 := Scalar.addi c0_i32_1134 v1014
  v1015.toNat
def k0_dev52 (d0 : Dev nD) : Nat :=
  let c0_i32_1171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1170 : BitVec 32 := 1#32
  let v1052 : BitVec 32 := Scalar.muli v5 c1_i32_1170
  let v1053 : BitVec 32 := Scalar.addi c0_i32_1171 v1052
  v1053.toNat
def k0_dev53 (d0 : Dev nD) : Nat :=
  let c0_i32_1179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1178 : BitVec 32 := 1#32
  let v1054 : BitVec 32 := Scalar.muli v7 c1_i32_1178
  let v1055 : BitVec 32 := Scalar.addi c0_i32_1179 v1054
  v1055.toNat
def k0_dev54 (d0 : Dev nD) : Nat :=
  let c0_i32_1216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1215 : BitVec 32 := 1#32
  let v1092 : BitVec 32 := Scalar.muli v5 c1_i32_1215
  let v1093 : BitVec 32 := Scalar.addi c0_i32_1216 v1092
  v1093.toNat
def k0_dev55 (d0 : Dev nD) : Nat :=
  let c0_i32_1224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1223 : BitVec 32 := 1#32
  let v1094 : BitVec 32 := Scalar.muli v7 c1_i32_1223
  let v1095 : BitVec 32 := Scalar.addi c0_i32_1224 v1094
  v1095.toNat
def k0_dev56 (d0 : Dev nD) : Nat :=
  let c0_i32_1261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1260 : BitVec 32 := 1#32
  let v1132 : BitVec 32 := Scalar.muli v5 c1_i32_1260
  let v1133 : BitVec 32 := Scalar.addi c0_i32_1261 v1132
  v1133.toNat
def k0_dev57 (d0 : Dev nD) : Nat :=
  let c0_i32_1269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1268 : BitVec 32 := 1#32
  let v1134 : BitVec 32 := Scalar.muli v7 c1_i32_1268
  let v1135 : BitVec 32 := Scalar.addi c0_i32_1269 v1134
  v1135.toNat
def k0_dev58 (d0 : Dev nD) : Nat :=
  let c0_i32_1306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1305 : BitVec 32 := 1#32
  let v1172 : BitVec 32 := Scalar.muli v5 c1_i32_1305
  let v1173 : BitVec 32 := Scalar.addi c0_i32_1306 v1172
  v1173.toNat
def k0_dev59 (d0 : Dev nD) : Nat :=
  let c0_i32_1314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1313 : BitVec 32 := 1#32
  let v1174 : BitVec 32 := Scalar.muli v7 c1_i32_1313
  let v1175 : BitVec 32 := Scalar.addi c0_i32_1314 v1174
  v1175.toNat
def k0_dev60 (d0 : Dev nD) : Nat :=
  let c0_i32_1351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1350 : BitVec 32 := 1#32
  let v1212 : BitVec 32 := Scalar.muli v5 c1_i32_1350
  let v1213 : BitVec 32 := Scalar.addi c0_i32_1351 v1212
  v1213.toNat
def k0_dev61 (d0 : Dev nD) : Nat :=
  let c0_i32_1359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1358 : BitVec 32 := 1#32
  let v1214 : BitVec 32 := Scalar.muli v7 c1_i32_1358
  let v1215 : BitVec 32 := Scalar.addi c0_i32_1359 v1214
  v1215.toNat
def k0_dev62 (d0 : Dev nD) : Nat :=
  let c0_i32_1396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1395 : BitVec 32 := 1#32
  let v1252 : BitVec 32 := Scalar.muli v5 c1_i32_1395
  let v1253 : BitVec 32 := Scalar.addi c0_i32_1396 v1252
  v1253.toNat
def k0_dev63 (d0 : Dev nD) : Nat :=
  let c0_i32_1404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1403 : BitVec 32 := 1#32
  let v1254 : BitVec 32 := Scalar.muli v7 c1_i32_1403
  let v1255 : BitVec 32 := Scalar.addi c0_i32_1404 v1254
  v1255.toNat
def k0_dev64 (d0 : Dev nD) : Nat :=
  let c0_i32_1443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1442 : BitVec 32 := 1#32
  let v1295 : BitVec 32 := Scalar.muli v5 c1_i32_1442
  let v1296 : BitVec 32 := Scalar.addi c0_i32_1443 v1295
  v1296.toNat
def k0_dev65 (d0 : Dev nD) : Nat :=
  let c0_i32_1451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1450 : BitVec 32 := 1#32
  let v1297 : BitVec 32 := Scalar.muli v7 c1_i32_1450
  let v1298 : BitVec 32 := Scalar.addi c0_i32_1451 v1297
  v1298.toNat
def k0_off3 (d0 : Dev nD) (c0_i32_1475 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1321 : BitVec 32 := Scalar.subi v2 c0_i32_1475
  let c32_i32_1476 : BitVec 32 := 32#32
  let v1322 : BitVec 32 := Scalar.addi v1321 c32_i32_1476
  let c32_i32_1477 : BitVec 32 := 32#32
  let v1323 : BitVec 32 := Scalar.remsi v1322 c32_i32_1477
  let c128_i32_1481 : BitVec 32 := 128#32
  let v1326 : BitVec 32 := Scalar.muli v1323 c128_i32_1481
  let v1327 : Index := Scalar.indexCast v1326
  let c0_1482 : Index := 0#32
  ![v1327.toNat, 0]
def k0_dev66 (d0 : Dev nD) : Nat :=
  let c0_i32_1485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1484 : BitVec 32 := 1#32
  let v1329 : BitVec 32 := Scalar.muli v5 c1_i32_1484
  let v1330 : BitVec 32 := Scalar.addi c0_i32_1485 v1329
  v1330.toNat
def k0_dev67 (d0 : Dev nD) : Nat :=
  let c0_i32_1493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1492 : BitVec 32 := 1#32
  let v1331 : BitVec 32 := Scalar.muli v7 c1_i32_1492
  let v1332 : BitVec 32 := Scalar.addi c0_i32_1493 v1331
  v1332.toNat
def k0_dev68 (d0 : Dev nD) : Nat :=
  let c0_i32_1527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1526 : BitVec 32 := 1#32
  let v1363 : BitVec 32 := Scalar.muli v5 c1_i32_1526
  let v1364 : BitVec 32 := Scalar.addi c0_i32_1527 v1363
  v1364.toNat
def k0_dev69 (d0 : Dev nD) : Nat :=
  let c0_i32_1535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1534 : BitVec 32 := 1#32
  let v1365 : BitVec 32 := Scalar.muli v7 c1_i32_1534
  let v1366 : BitVec 32 := Scalar.addi c0_i32_1535 v1365
  v1366.toNat
def k0_dev70 (d0 : Dev nD) : Nat :=
  let c0_i32_1569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1568 : BitVec 32 := 1#32
  let v1397 : BitVec 32 := Scalar.muli v5 c1_i32_1568
  let v1398 : BitVec 32 := Scalar.addi c0_i32_1569 v1397
  v1398.toNat
def k0_dev71 (d0 : Dev nD) : Nat :=
  let c0_i32_1577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1576 : BitVec 32 := 1#32
  let v1399 : BitVec 32 := Scalar.muli v7 c1_i32_1576
  let v1400 : BitVec 32 := Scalar.addi c0_i32_1577 v1399
  v1400.toNat
def k0_dev72 (d0 : Dev nD) : Nat :=
  let c0_i32_1611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1610 : BitVec 32 := 1#32
  let v1431 : BitVec 32 := Scalar.muli v5 c1_i32_1610
  let v1432 : BitVec 32 := Scalar.addi c0_i32_1611 v1431
  v1432.toNat
def k0_dev73 (d0 : Dev nD) : Nat :=
  let c0_i32_1619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1618 : BitVec 32 := 1#32
  let v1433 : BitVec 32 := Scalar.muli v7 c1_i32_1618
  let v1434 : BitVec 32 := Scalar.addi c0_i32_1619 v1433
  v1434.toNat
def k0_dev74 (d0 : Dev nD) : Nat :=
  let c0_i32_1653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1652 : BitVec 32 := 1#32
  let v1465 : BitVec 32 := Scalar.muli v5 c1_i32_1652
  let v1466 : BitVec 32 := Scalar.addi c0_i32_1653 v1465
  v1466.toNat
def k0_dev75 (d0 : Dev nD) : Nat :=
  let c0_i32_1661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1660 : BitVec 32 := 1#32
  let v1467 : BitVec 32 := Scalar.muli v7 c1_i32_1660
  let v1468 : BitVec 32 := Scalar.addi c0_i32_1661 v1467
  v1468.toNat
def k0_dev76 (d0 : Dev nD) : Nat :=
  let c0_i32_1695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1694 : BitVec 32 := 1#32
  let v1499 : BitVec 32 := Scalar.muli v5 c1_i32_1694
  let v1500 : BitVec 32 := Scalar.addi c0_i32_1695 v1499
  v1500.toNat
def k0_dev77 (d0 : Dev nD) : Nat :=
  let c0_i32_1703 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1702 : BitVec 32 := 1#32
  let v1501 : BitVec 32 := Scalar.muli v7 c1_i32_1702
  let v1502 : BitVec 32 := Scalar.addi c0_i32_1703 v1501
  v1502.toNat
def k0_dev78 (d0 : Dev nD) : Nat :=
  let c0_i32_1737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1736 : BitVec 32 := 1#32
  let v1533 : BitVec 32 := Scalar.muli v5 c1_i32_1736
  let v1534 : BitVec 32 := Scalar.addi c0_i32_1737 v1533
  v1534.toNat
def k0_dev79 (d0 : Dev nD) : Nat :=
  let c0_i32_1745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1744 : BitVec 32 := 1#32
  let v1535 : BitVec 32 := Scalar.muli v7 c1_i32_1744
  let v1536 : BitVec 32 := Scalar.addi c0_i32_1745 v1535
  v1536.toNat
def k0_dev80 (d0 : Dev nD) : Nat :=
  let c0_i32_1779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1778 : BitVec 32 := 1#32
  let v1567 : BitVec 32 := Scalar.muli v5 c1_i32_1778
  let v1568 : BitVec 32 := Scalar.addi c0_i32_1779 v1567
  v1568.toNat
def k0_dev81 (d0 : Dev nD) : Nat :=
  let c0_i32_1787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1786 : BitVec 32 := 1#32
  let v1569 : BitVec 32 := Scalar.muli v7 c1_i32_1786
  let v1570 : BitVec 32 := Scalar.addi c0_i32_1787 v1569
  v1570.toNat
def k0_dev82 (d0 : Dev nD) : Nat :=
  let c0_i32_1821 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1820 : BitVec 32 := 1#32
  let v1601 : BitVec 32 := Scalar.muli v5 c1_i32_1820
  let v1602 : BitVec 32 := Scalar.addi c0_i32_1821 v1601
  v1602.toNat
def k0_dev83 (d0 : Dev nD) : Nat :=
  let c0_i32_1829 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1828 : BitVec 32 := 1#32
  let v1603 : BitVec 32 := Scalar.muli v7 c1_i32_1828
  let v1604 : BitVec 32 := Scalar.addi c0_i32_1829 v1603
  v1604.toNat
def k0_dev84 (d0 : Dev nD) : Nat :=
  let c0_i32_1863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1862 : BitVec 32 := 1#32
  let v1635 : BitVec 32 := Scalar.muli v5 c1_i32_1862
  let v1636 : BitVec 32 := Scalar.addi c0_i32_1863 v1635
  v1636.toNat
def k0_dev85 (d0 : Dev nD) : Nat :=
  let c0_i32_1871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1870 : BitVec 32 := 1#32
  let v1637 : BitVec 32 := Scalar.muli v7 c1_i32_1870
  let v1638 : BitVec 32 := Scalar.addi c0_i32_1871 v1637
  v1638.toNat
def k0_dev86 (d0 : Dev nD) : Nat :=
  let c0_i32_1905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1904 : BitVec 32 := 1#32
  let v1669 : BitVec 32 := Scalar.muli v5 c1_i32_1904
  let v1670 : BitVec 32 := Scalar.addi c0_i32_1905 v1669
  v1670.toNat
def k0_dev87 (d0 : Dev nD) : Nat :=
  let c0_i32_1913 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1912 : BitVec 32 := 1#32
  let v1671 : BitVec 32 := Scalar.muli v7 c1_i32_1912
  let v1672 : BitVec 32 := Scalar.addi c0_i32_1913 v1671
  v1672.toNat
def k0_dev88 (d0 : Dev nD) : Nat :=
  let c0_i32_1947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1946 : BitVec 32 := 1#32
  let v1703 : BitVec 32 := Scalar.muli v5 c1_i32_1946
  let v1704 : BitVec 32 := Scalar.addi c0_i32_1947 v1703
  v1704.toNat
def k0_dev89 (d0 : Dev nD) : Nat :=
  let c0_i32_1955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1954 : BitVec 32 := 1#32
  let v1705 : BitVec 32 := Scalar.muli v7 c1_i32_1954
  let v1706 : BitVec 32 := Scalar.addi c0_i32_1955 v1705
  v1706.toNat
def k0_dev90 (d0 : Dev nD) : Nat :=
  let c0_i32_1989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1988 : BitVec 32 := 1#32
  let v1737 : BitVec 32 := Scalar.muli v5 c1_i32_1988
  let v1738 : BitVec 32 := Scalar.addi c0_i32_1989 v1737
  v1738.toNat
def k0_dev91 (d0 : Dev nD) : Nat :=
  let c0_i32_1997 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1996 : BitVec 32 := 1#32
  let v1739 : BitVec 32 := Scalar.muli v7 c1_i32_1996
  let v1740 : BitVec 32 := Scalar.addi c0_i32_1997 v1739
  v1740.toNat
def k0_dev92 (d0 : Dev nD) : Nat :=
  let c0_i32_2031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2030 : BitVec 32 := 1#32
  let v1771 : BitVec 32 := Scalar.muli v5 c1_i32_2030
  let v1772 : BitVec 32 := Scalar.addi c0_i32_2031 v1771
  v1772.toNat
def k0_dev93 (d0 : Dev nD) : Nat :=
  let c0_i32_2039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2038 : BitVec 32 := 1#32
  let v1773 : BitVec 32 := Scalar.muli v7 c1_i32_2038
  let v1774 : BitVec 32 := Scalar.addi c0_i32_2039 v1773
  v1774.toNat
def k0_dev94 (d0 : Dev nD) : Nat :=
  let c0_i32_2073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2072 : BitVec 32 := 1#32
  let v1805 : BitVec 32 := Scalar.muli v5 c1_i32_2072
  let v1806 : BitVec 32 := Scalar.addi c0_i32_2073 v1805
  v1806.toNat
def k0_dev95 (d0 : Dev nD) : Nat :=
  let c0_i32_2081 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2080 : BitVec 32 := 1#32
  let v1807 : BitVec 32 := Scalar.muli v7 c1_i32_2080
  let v1808 : BitVec 32 := Scalar.addi c0_i32_2081 v1807
  v1808.toNat
def k0_dev96 (d0 : Dev nD) : Nat :=
  let c0_i32_2115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2114 : BitVec 32 := 1#32
  let v1839 : BitVec 32 := Scalar.muli v5 c1_i32_2114
  let v1840 : BitVec 32 := Scalar.addi c0_i32_2115 v1839
  v1840.toNat
def k0_dev97 (d0 : Dev nD) : Nat :=
  let c0_i32_2123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2122 : BitVec 32 := 1#32
  let v1841 : BitVec 32 := Scalar.muli v7 c1_i32_2122
  let v1842 : BitVec 32 := Scalar.addi c0_i32_2123 v1841
  v1842.toNat
def k0_dev98 (d0 : Dev nD) : Nat :=
  let c0_i32_2157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2156 : BitVec 32 := 1#32
  let v1873 : BitVec 32 := Scalar.muli v5 c1_i32_2156
  let v1874 : BitVec 32 := Scalar.addi c0_i32_2157 v1873
  v1874.toNat
def k0_dev99 (d0 : Dev nD) : Nat :=
  let c0_i32_2165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2164 : BitVec 32 := 1#32
  let v1875 : BitVec 32 := Scalar.muli v7 c1_i32_2164
  let v1876 : BitVec 32 := Scalar.addi c0_i32_2165 v1875
  v1876.toNat
def k0_dev100 (d0 : Dev nD) : Nat :=
  let c0_i32_2199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2198 : BitVec 32 := 1#32
  let v1907 : BitVec 32 := Scalar.muli v5 c1_i32_2198
  let v1908 : BitVec 32 := Scalar.addi c0_i32_2199 v1907
  v1908.toNat
def k0_dev101 (d0 : Dev nD) : Nat :=
  let c0_i32_2207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2206 : BitVec 32 := 1#32
  let v1909 : BitVec 32 := Scalar.muli v7 c1_i32_2206
  let v1910 : BitVec 32 := Scalar.addi c0_i32_2207 v1909
  v1910.toNat
def k0_dev102 (d0 : Dev nD) : Nat :=
  let c0_i32_2241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2240 : BitVec 32 := 1#32
  let v1941 : BitVec 32 := Scalar.muli v5 c1_i32_2240
  let v1942 : BitVec 32 := Scalar.addi c0_i32_2241 v1941
  v1942.toNat
def k0_dev103 (d0 : Dev nD) : Nat :=
  let c0_i32_2249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2248 : BitVec 32 := 1#32
  let v1943 : BitVec 32 := Scalar.muli v7 c1_i32_2248
  let v1944 : BitVec 32 := Scalar.addi c0_i32_2249 v1943
  v1944.toNat
def k0_dev104 (d0 : Dev nD) : Nat :=
  let c0_i32_2283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2282 : BitVec 32 := 1#32
  let v1975 : BitVec 32 := Scalar.muli v5 c1_i32_2282
  let v1976 : BitVec 32 := Scalar.addi c0_i32_2283 v1975
  v1976.toNat
def k0_dev105 (d0 : Dev nD) : Nat :=
  let c0_i32_2291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2290 : BitVec 32 := 1#32
  let v1977 : BitVec 32 := Scalar.muli v7 c1_i32_2290
  let v1978 : BitVec 32 := Scalar.addi c0_i32_2291 v1977
  v1978.toNat
def k0_dev106 (d0 : Dev nD) : Nat :=
  let c0_i32_2325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2324 : BitVec 32 := 1#32
  let v2009 : BitVec 32 := Scalar.muli v5 c1_i32_2324
  let v2010 : BitVec 32 := Scalar.addi c0_i32_2325 v2009
  v2010.toNat
def k0_dev107 (d0 : Dev nD) : Nat :=
  let c0_i32_2333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2332 : BitVec 32 := 1#32
  let v2011 : BitVec 32 := Scalar.muli v7 c1_i32_2332
  let v2012 : BitVec 32 := Scalar.addi c0_i32_2333 v2011
  v2012.toNat
def k0_dev108 (d0 : Dev nD) : Nat :=
  let c0_i32_2367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2366 : BitVec 32 := 1#32
  let v2043 : BitVec 32 := Scalar.muli v5 c1_i32_2366
  let v2044 : BitVec 32 := Scalar.addi c0_i32_2367 v2043
  v2044.toNat
def k0_dev109 (d0 : Dev nD) : Nat :=
  let c0_i32_2375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2374 : BitVec 32 := 1#32
  let v2045 : BitVec 32 := Scalar.muli v7 c1_i32_2374
  let v2046 : BitVec 32 := Scalar.addi c0_i32_2375 v2045
  v2046.toNat
def k0_dev110 (d0 : Dev nD) : Nat :=
  let c0_i32_2409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2408 : BitVec 32 := 1#32
  let v2077 : BitVec 32 := Scalar.muli v5 c1_i32_2408
  let v2078 : BitVec 32 := Scalar.addi c0_i32_2409 v2077
  v2078.toNat
def k0_dev111 (d0 : Dev nD) : Nat :=
  let c0_i32_2417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2416 : BitVec 32 := 1#32
  let v2079 : BitVec 32 := Scalar.muli v7 c1_i32_2416
  let v2080 : BitVec 32 := Scalar.addi c0_i32_2417 v2079
  v2080.toNat
def k0_dev112 (d0 : Dev nD) : Nat :=
  let c0_i32_2451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2450 : BitVec 32 := 1#32
  let v2111 : BitVec 32 := Scalar.muli v5 c1_i32_2450
  let v2112 : BitVec 32 := Scalar.addi c0_i32_2451 v2111
  v2112.toNat
def k0_dev113 (d0 : Dev nD) : Nat :=
  let c0_i32_2459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2458 : BitVec 32 := 1#32
  let v2113 : BitVec 32 := Scalar.muli v7 c1_i32_2458
  let v2114 : BitVec 32 := Scalar.addi c0_i32_2459 v2113
  v2114.toNat
def k0_dev114 (d0 : Dev nD) : Nat :=
  let c0_i32_2493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2492 : BitVec 32 := 1#32
  let v2145 : BitVec 32 := Scalar.muli v5 c1_i32_2492
  let v2146 : BitVec 32 := Scalar.addi c0_i32_2493 v2145
  v2146.toNat
def k0_dev115 (d0 : Dev nD) : Nat :=
  let c0_i32_2501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2500 : BitVec 32 := 1#32
  let v2147 : BitVec 32 := Scalar.muli v7 c1_i32_2500
  let v2148 : BitVec 32 := Scalar.addi c0_i32_2501 v2147
  v2148.toNat
def k0_dev116 (d0 : Dev nD) : Nat :=
  let c0_i32_2535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2534 : BitVec 32 := 1#32
  let v2179 : BitVec 32 := Scalar.muli v5 c1_i32_2534
  let v2180 : BitVec 32 := Scalar.addi c0_i32_2535 v2179
  v2180.toNat
def k0_dev117 (d0 : Dev nD) : Nat :=
  let c0_i32_2543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2542 : BitVec 32 := 1#32
  let v2181 : BitVec 32 := Scalar.muli v7 c1_i32_2542
  let v2182 : BitVec 32 := Scalar.addi c0_i32_2543 v2181
  v2182.toNat
def k0_dev118 (d0 : Dev nD) : Nat :=
  let c0_i32_2577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2576 : BitVec 32 := 1#32
  let v2213 : BitVec 32 := Scalar.muli v5 c1_i32_2576
  let v2214 : BitVec 32 := Scalar.addi c0_i32_2577 v2213
  v2214.toNat
def k0_dev119 (d0 : Dev nD) : Nat :=
  let c0_i32_2585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2584 : BitVec 32 := 1#32
  let v2215 : BitVec 32 := Scalar.muli v7 c1_i32_2584
  let v2216 : BitVec 32 := Scalar.addi c0_i32_2585 v2215
  v2216.toNat
def k0_dev120 (d0 : Dev nD) : Nat :=
  let c0_i32_2619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2618 : BitVec 32 := 1#32
  let v2247 : BitVec 32 := Scalar.muli v5 c1_i32_2618
  let v2248 : BitVec 32 := Scalar.addi c0_i32_2619 v2247
  v2248.toNat
def k0_dev121 (d0 : Dev nD) : Nat :=
  let c0_i32_2627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2626 : BitVec 32 := 1#32
  let v2249 : BitVec 32 := Scalar.muli v7 c1_i32_2626
  let v2250 : BitVec 32 := Scalar.addi c0_i32_2627 v2249
  v2250.toNat
def k0_dev122 (d0 : Dev nD) : Nat :=
  let c0_i32_2661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2660 : BitVec 32 := 1#32
  let v2281 : BitVec 32 := Scalar.muli v5 c1_i32_2660
  let v2282 : BitVec 32 := Scalar.addi c0_i32_2661 v2281
  v2282.toNat
def k0_dev123 (d0 : Dev nD) : Nat :=
  let c0_i32_2669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2668 : BitVec 32 := 1#32
  let v2283 : BitVec 32 := Scalar.muli v7 c1_i32_2668
  let v2284 : BitVec 32 := Scalar.addi c0_i32_2669 v2283
  v2284.toNat
def k0_dev124 (d0 : Dev nD) : Nat :=
  let c0_i32_2703 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2702 : BitVec 32 := 1#32
  let v2315 : BitVec 32 := Scalar.muli v5 c1_i32_2702
  let v2316 : BitVec 32 := Scalar.addi c0_i32_2703 v2315
  v2316.toNat
def k0_dev125 (d0 : Dev nD) : Nat :=
  let c0_i32_2711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2710 : BitVec 32 := 1#32
  let v2317 : BitVec 32 := Scalar.muli v7 c1_i32_2710
  let v2318 : BitVec 32 := Scalar.addi c0_i32_2711 v2317
  v2318.toNat
def k0_dev126 (d0 : Dev nD) : Nat :=
  let c0_i32_2819_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2818_r0 : BitVec 32 := 1#32
  let v2511_r0 : BitVec 32 := Scalar.muli v5 c1_i32_2818_r0
  let v2512_r0 : BitVec 32 := Scalar.addi c0_i32_2819_r0 v2511_r0
  v2512_r0.toNat
def k0_dev127 (d0 : Dev nD) : Nat :=
  let c0_i32_2822_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2821_r0 : BitVec 32 := 1#32
  let v2513_r0 : BitVec 32 := Scalar.muli v7 c1_i32_2821_r0
  let v2514_r0 : BitVec 32 := Scalar.addi c0_i32_2822_r0 v2513_r0
  v2514_r0.toNat
abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Struct.lean ====
/-
  The kernel's body, restated with its repetitions as loops. The kernel's text unrolls eight row blocks of a matrix product,
  sixty-two hops around the ring of devices, eight row blocks of a maximum and eight of a quantisation. Here each of the four is
  a recursion over how many rounds are left, and the theorem `body_eq` states that the body is the composition of them. The
  proofs of the other modules then treat one round, at a symbolic number.
-/
module

public import proofs.«01_k».proof.Proof.Gen.KernelIdeal
public import proofs.«01_k».proof.Proof.Gen.KernelIdeal.Points
public import Idealize.ShloMosaic.Lib.Tactic

@[expose] public section

noncomputable section

namespace Cert.RingProof

open Cert.KernelIdeal
open Cert.KernelIdeal.Facts₀ Cert.KernelIdeal.Facts
open Idealize.ShloMosaic
open Idealize.ShloMosaic.TcCoe
open Idealize.SL.Sem

/-- A TensorCore program of the kernel that returns nothing. -/
abbrev Prg (F : FTy → Type) [FloatOps F] : Type 1 := Prog (TpuEff nD τ sig (Elt F) Λ₀ .tc) PUnit

/-! ## Buffers, semaphores and rectangles -/

/-- The two operands' staging buffers, the result's, and the two communication slots. -/
abbrev aM : Memref sig .tc .vmem S4096x128 .bf16 := Memref.whole cc0_stg0_0
abbrev bM : Memref sig .tc .vmem S128x2048 .bf16 := Memref.whole cc0_stg1_0
abbrev oM : Memref sig .tc .vmem S4096x2048 .f32 := Memref.whole cc0_stg2_0
abbrev cM : Memref sig .tc .vmem S2x128x2048 .f32 := Memref.whole cc0_scratch0

/-- Row block `7 - n` of eight, of 512 rows, lies in the first operand's staging buffer; -/
theorem inbA (n : ℕ) : ∀ a, (![512 * (7 - n), 0] : Fin 2 → ℕ) a + S512x128.size a ≤ S4096x128.size a := by
  intro a
  fin_cases a
  · show 512 * (7 - n) + 512 ≤ 4096; omega
  · show 0 + 128 ≤ 128; omega

/-- and in the result's. -/
theorem inbO (n : ℕ) : ∀ a, (![512 * (7 - n), 0] : Fin 2 → ℕ) a + S512x2048.size a ≤ S4096x2048.size a := by
  intro a
  fin_cases a
  · show 512 * (7 - n) + 512 ≤ 4096; omega
  · show 0 + 2048 ≤ 2048; omega

/-- Slot `s` of two lies in the communication buffer. -/
theorem inbC (s : Fin 2) : ∀ a, (![s.val, 0, 0] : Fin 3 → ℕ) a + S1x128x2048.size a ≤ S2x128x2048.size a := by
  intro a
  have := s.isLt
  fin_cases a
  · show s.val + 1 ≤ 2; omega
  · show 0 + 128 ≤ 128; omega
  · show 0 + 2048 ≤ 2048; omega

/-- The rectangle of row block `7 - n` of the first operand, -/
abbrev rA (n : ℕ) : Rect S4096x128 := Rect.unit (s := S4096x128) ![512 * (7 - n), 0] S512x128.size (inbA n)
/-- of the result, -/
abbrev rO (n : ℕ) : Rect S4096x2048 := Rect.unit (s := S4096x2048) ![512 * (7 - n), 0] S512x2048.size (inbO n)
/-- and of slot `s`. -/
abbrev rC (s : Fin 2) : Rect S2x128x2048 := Rect.unit (s := S2x128x2048) ![s.val, 0, 0] S1x128x2048.size (inbC s)
/-- The rectangle of 128 rows of the result from an offset `o`. -/
abbrev rRow (o : Fin 2 → ℕ) (h : ∀ a, o a + S128x2048.size a ≤ S4096x2048.size a) : Rect S4096x2048 :=
  Rect.unit (s := S4096x2048) o S128x2048.size h
/-- The rectangle of all of the second operand. -/
abbrev rB : Rect S128x2048 := Rect.unit (s := S128x2048) ![0, 0] S128x2048.size inb_S128x2048_S128x2048_0_0

/-- Slot `s` as a matrix. -/
abbrev slotM (s : Fin 2) : Memref sig .tc .vmem S128x2048 .f32 :=
  (cM.slice (rC s) (fun _ => rfl)).squeeze S128x2048 squeezes_S1x128x2048_S128x2048

/-- The semaphore that slot `s`'s departure is counted on; -/
def sS (s : Fin 2) : DmaSem sig := ⟨3 + s.val, by have := s.isLt; show _ < 7; omega⟩
/-- the one that an arrival in slot `s` is counted on. -/
def rS (s : Fin 2) : DmaSem sig := ⟨5 + s.val, by have := s.isLt; show _ < 7; omega⟩
/-- The runtime's barrier semaphore; the semaphore of the credits; the one of the closing barrier. -/
abbrev barS : Sem sig := (SemArray.scalar (sig.barrier 0 rfl) : Sems sig S_).sem
abbrev crdS : Sem sig := cc0_scratch3.sem
abbrev endS : Sem sig := cc0_scoped0.sem

/-- The slot that hop `j` sends from: `j`'s parity. The hop lands in slot `par (j + 1)`. -/
def par (j : ℕ) : Fin 2 := ⟨j % 2, Nat.mod_lt _ Nat.two_pos⟩

/-- The next device of the ring and the one before, as the kernel computes them. -/
abbrev right (c : Dev nD) : Dev nD := ⟨k0_dev3 c, k0_dev3_lt c⟩
abbrev left (c : Dev nD) : Dev nD := ⟨k0_dev1 c, k0_dev1_lt c⟩

variable {F : FTy → Type} [FloatOps F]

/-! ## The values the body computes -/

/-- One row block of the product. -/
def mmBlock (b : Vec F S128x2048 .bf16) (a : Vec F S512x128 .bf16) : FVec F S512x2048 .f32 :=
  matmul dot_S512x128_S128x2048_S512x2048_1_0_0_1_n_n none (shapeCast S512x128 a shapeCasts_S512x128_S512x128)
    (shapeCast S128x2048 b shapeCasts_S128x2048_S128x2048) (constant S512x2048 .f32 0x00000000#32)

/-- A slot's contents plus a row block of the result. -/
def accum (v : Vec F S1x128x2048 .f32) (w : Vec F S128x2048 .f32) : FVec F S128x2048 .f32 :=
  addf (shapeCast S128x2048 v shapeCasts_S1x128x2048_S128x2048) (shapeCast S128x2048 w shapeCasts_S128x2048_S128x2048)

/-- The largest absolute value of a row block. -/
def blkMax (v : Vec F S512x2048 .f32) : F .f32 :=
  extractAt ![0, 0, 0] (shapeCast S1x1x1 (multiReduction .maximumf [1, 2] S1
    (shapeCast S1x512x2048 (absf (shapeCast S512x2048 v shapeCasts_S512x2048_S512x2048)) shapeCasts_S512x2048_S1x512x2048)
    0xFF800000#32 reduces_S1x512x2048_S1 (.inl rfl) rfl) shapeCasts_S1_S1x1x1) inpos_S1x1x1_p0_0_0

/-- A row block, quantised at scale `s` and scaled back. -/
def quantBlk (s : F .f32) (v : Vec F S512x2048 .f32) : FVec F S512x2048 .f32 :=
  mulf (minimumf (broadcast S512x2048 (Scalar.ofBits .f32 0x42FE0000#32))
    (maximumf (broadcast S512x2048 (Scalar.ofBits .f32 0xC2FE0000#32))
      (roundeven (divf (shapeCast S512x2048 v shapeCasts_S512x2048_S512x2048) (broadcast S512x2048 s))))) (broadcast S512x2048 s)

/-! ## The loops -/

/-- The last `n` of the eight row blocks of the product, then `k`. -/
def mmLoop (b : Vec F S128x2048 .bf16) : ℕ → Prg F → Prg F
  | 0, k => k
  | n + 1, k =>
    .op (.load aM (rA n).toLoadRect (View.loadsAt_vmem h_S512x128)) fun a =>
    .op (.load oM (rO n).toLoadRect (View.loadsAt_vmem h_S512x2048)) fun _ =>
    .op (.store oM (rO n) (mmBlock b a) Finset.univ (View.stores_vmem_bits_univ h_S512x2048 rfl) (.inl rfl)) fun _ =>
    mmLoop b n k

/-- Send slot `par j` to device `d`'s other slot, wait for the departure, wait for the arrival of another device's. -/
def xferTo (d : Dev nD) (j : ℕ) (k : Prg F) : Prg F :=
  .op (.enqueueDma (slotM (par j)) (.remote (Dev.tc d) (slotM (par (j + 1))) (.dma (sS (par j)))) (.dma (rS (par (j + 1))))
    ((View.wordExact_bits rfl).reshape _ _) ((View.wordExact_bits rfl).reshape _ _) ⟨⟨rfl, Or.inl rfl⟩, trivial⟩) fun _ =>
  .op (.waitDma2 (sS (par j)) (slotM (par (j + 1))) (slotM (par j)) ((View.wordExact_bits rfl).reshape _ _)
    ((View.wordExact_bits rfl).reshape _ _)) fun _ =>
  .op (.waitDma2 (rS (par (j + 1))) (slotM (par j)) (slotM (par (j + 1))) ((View.wordExact_bits rfl).reshape _ _)
    ((View.wordExact_bits rfl).reshape _ _)) fun _ => k

/-- Hop `j`'s transfer, to the next device. -/
def xfer (c : Dev nD) (j : ℕ) (k : Prg F) : Prg F := xferTo (right c) j k

/-- Give the device before a credit, and wait for one from the next. -/
def sync (c : Dev nD) (k : Prg F) : Prg F :=
  .op (.semSignal (left c, .tc) crdS (1#32).toInt) fun _ => .op (.semWait crdS (1#32).toInt) fun _ => k

/-- Add to slot `s` the 128 rows of the result at offset `o`; then `k` of the sum. -/
def addInto (s : Fin 2) (o : Fin 2 → ℕ) (h : ∀ a, o a + S128x2048.size a ≤ S4096x2048.size a) (k : FVec F S128x2048 .f32 → Prg F) : Prg F :=
  .op (.load cM (rC s).toLoadRect (View.loadsAt_vmem h_S1x128x2048)) fun v =>
  .op (.load oM (rRow o h).toLoadRect (View.loadsAt_vmem h_S128x2048)) fun w =>
  .op (.load cM (rC s).toLoadRect (View.loadsAt_vmem h_S1x128x2048)) fun _ =>
  .op (.store cM (rC s) (shapeCast S1x128x2048 (accum v w) shapeCasts_S128x2048_S1x128x2048) Finset.univ
    (View.stores_vmem_bits_univ h_S1x128x2048 rfl) (.inl rfl)) fun _ => k (accum v w)

/-- Store 128 rows into the result at offset `o`. -/
def putRows (o : Fin 2 → ℕ) (h : ∀ a, o a + S128x2048.size a ≤ S4096x2048.size a) (w : FVec F S128x2048 .f32) (k : Prg F) : Prg F :=
  .op (.load oM (rRow o h).toLoadRect (View.loadsAt_vmem h_S128x2048)) fun _ =>
  .op (.store oM (rRow o h) w Finset.univ (View.stores_vmem_bits_univ h_S128x2048 rfl) (.inl rfl)) fun _ => k

/-- Copy slot `s` into the result at offset `o`. -/
def copyOut (s : Fin 2) (o : Fin 2 → ℕ) (h : ∀ a, o a + S128x2048.size a ≤ S4096x2048.size a) (k : Prg F) : Prg F :=
  .op (.load cM (rC s).toLoadRect (View.loadsAt_vmem h_S1x128x2048)) fun v =>
  putRows o h (shapeCast S128x2048 v shapeCasts_S1x128x2048_S128x2048) k

/-- Round `j` of the reduction, for `j < 31`: the rows that device `c` adds. -/
abbrev offR (c : Dev nD) (j : ℕ) : Fin 2 → ℕ := k0_off2 c (BitVec.ofNat 32 j)
theorem offR_inb (c : Dev nD) (j : ℕ) (h : j < 31) : ∀ a, offR c j a + S128x2048.size a ≤ S4096x2048.size a := k0_off2_inb c ⟨j, h⟩
/-- Round `g` of the gathering, for `g < 31`: the rows that device `c` receives. -/
abbrev offG (c : Dev nD) (g : ℕ) : Fin 2 → ℕ := k0_off3 c (BitVec.ofNat 32 g)
theorem offG_inb (c : Dev nD) (g : ℕ) (h : g < 31) : ∀ a, offG c g a + S128x2048.size a ≤ S4096x2048.size a := k0_off3_inb c ⟨g, h⟩

/-- The last `n` of the hops 0, …, 29 of the reduction, then `k`. -/
def redLoop (c : Dev nD) : ℕ → Prg F → Prg F
  | 0, k => k
  | n + 1, k => xfer c (29 - n) (addInto (par (29 - n + 1)) (offR c (29 - n)) (offR_inb c _ (by omega)) fun _ => sync c (redLoop c n k))

/-- The last `n` of the hops 31, …, 60 of the gathering, then `k`. -/
def gatLoop (c : Dev nD) : ℕ → Prg F → Prg F
  | 0, k => k
  | n + 1, k => xfer c (60 - n) (copyOut (par (60 - n + 1)) (offG c (29 - n)) (offG_inb c _ (by omega)) (sync c (gatLoop c n k)))

/-- The largest absolute value of the last `n` row blocks and of `m`, then `k` of it. -/
def maxLoop : ℕ → F .f32 → (F .f32 → Prg F) → Prg F
  | 0, m, k => k m
  | n + 1, m, k => .op (.load oM (rO n).toLoadRect (View.loadsAt_vmem h_S512x2048)) fun v => maxLoop n (Scalar.maximumf m (blkMax v)) k

/-- The quantisation of the last `n` row blocks, then `k`. -/
def quantLoop (s : F .f32) : ℕ → Prg F → Prg F
  | 0, k => k
  | n + 1, k =>
    .op (.load oM (rO n).toLoadRect (View.loadsAt_vmem h_S512x2048)) fun v =>
    .op (.load oM (rO n).toLoadRect (View.loadsAt_vmem h_S512x2048)) fun _ =>
    .op (.store oM (rO n) (quantBlk s v) Finset.univ (View.stores_vmem_bits_univ h_S512x2048 rfl) (.inl rfl)) fun _ => quantLoop s n k

/-- Signal the neighbours on the regular semaphore `q`, the one before first, and wait for both of theirs; then `k`. -/
def barrier (c : Dev nD) (q : Sem sig) (k : Prg F) : Prg F :=
  .op (.semSignal (left c, .tc) q (1#32).toInt) fun _ => .op (.semSignal (right c, .tc) q (1#32).toInt) fun _ =>
  .op (.semWait q (2#32).toInt) fun _ => k

/-- Load device `c`'s own rows of the product into slot 0. -/
def fill (c : Dev nD) (k : Prg F) : Prg F :=
  .op (.load oM (rRow (k0_off1 c) (k0_off1_inb c)).toLoadRect (View.loadsAt_vmem h_S128x2048)) fun w =>
  .op (.load cM (rC 0).toLoadRect (View.loadsAt_vmem h_S1x128x2048)) fun _ =>
  .op (.store cM (rC 0) (shapeCast S1x128x2048 (shapeCast S128x2048 w shapeCasts_S128x2048_S128x2048) shapeCasts_S128x2048_S1x128x2048)
    Finset.univ (View.stores_vmem_bits_univ h_S1x128x2048 rfl) (.inl rfl)) fun _ => k

/-- After the hops: the largest absolute value, the quantisation, the closing barrier. -/
def epilogue (c : Dev nD) : Prg F :=
  maxLoop 8 (Scalar.ofBits .f32 0x00000000#32) fun m =>
  quantLoop (Scalar.divf m (Scalar.ofBits .f32 0x42FE0000#32)) 8 (barrier c endS (.ret ⟨⟩))

/-- The hops. -/
def hops (c : Dev nD) (k : Prg F) : Prg F :=
  redLoop c 30 <|
  xfer c 30 <| addInto (par 31) (offR c 30) (offR_inb c 30 (by decide)) fun v =>
  putRows (offR c 30) (offR_inb c 30 (by decide)) v <| sync c <|
  gatLoop c 30 <|
  xfer c 61 <| copyOut (par 62) (offG c 30) (offG_inb c 30 (by decide)) k

/-- The whole body on device `c`. -/
def bodyOf (c : Dev nD) : Prg F :=
  barrier c barS <|
  .op (.load bM rB.toLoadRect (View.loadsAt_vmem h_S128x2048)) fun b =>
  mmLoop b 8 <| fill c <| hops c (epilogue c)

set_option maxRecDepth 100000 in
/-- The kernel's body reads its device and is then the composition of the loops. -/
theorem body_eq (t : Fin cfg0.N) : Gen.bodyAt0 (F := F) t = .op .deviceId bodyOf := by
  sl_kernel_rfl

end Cert.RingProof

end
-- ==== Proof.Vals.lean ====
/-
  What the kernel's buffers hold, as functions of the devices' operands: a device's partial product (`part`), the rows a slot
  holds before each hop (`val`), the summed product all devices end up with (`gath`), the largest absolute value in it (`top`), and
  its quantisation (`quant`). Then what one load or one store through a rectangle of the result's buffer, or of a slot, does to these.
-/
module

public import proofs.«01_k».proof.Proof.Struct
public import Idealize.ShloMosaic.Lib.ViewIndex
public import Idealize.ShloMosaic.Lib.Pipeline.Value

@[expose] public section

noncomputable section

namespace Cert.RingProof

open Cert.KernelIdeal
open Cert.KernelIdeal.Facts₀ Cert.KernelIdeal.Facts
open Idealize.ShloMosaic
open Idealize.ShloMosaic.TcCoe

/-! ## The ring -/

/-- The next device of the ring, -/
def nxt (c : Dev nD) : Dev nD := ⟨(c.val + 1) % 32, Nat.mod_lt _ (by decide)⟩
/-- and the one before. -/
def prv (c : Dev nD) : Dev nD := ⟨(c.val + 31) % 32, Nat.mod_lt _ (by decide)⟩

theorem prv_nxt (c : Dev nD) : prv (nxt c) = c := by
  have := c.isLt
  refine Fin.ext ?_
  show ((c.val + 1) % 32 + 31) % 32 = c.val
  have : c.val < 32 := c.isLt
  omega
theorem nxt_prv (c : Dev nD) : nxt (prv c) = c := by
  refine Fin.ext ?_
  show ((c.val + 31) % 32 + 1) % 32 = c.val
  have : c.val < 32 := c.isLt
  omega
/-- The kernel's own arithmetic names these two devices. -/
theorem right_eq (c : Dev nD) : right c = nxt c := Fin.ext (Gen.k0_dev3_eq c)
theorem left_eq (c : Dev nD) : left c = prv c := Fin.ext (Gen.k0_dev1_eq c)

/-! ## Indices -/

/-- Two indices of a matrix are equal if their rows and their columns are. -/
theorem ext2 {d : Fin 2 → ℕ} {x y : (⟨2, d⟩ : Shape).Idx} (h0 : (x 0).val = (y 0).val) (h1 : (x 1).val = (y 1).val) : x = y := by
  funext a
  fin_cases a
  · exact Fin.ext h0
  · exact Fin.ext h1

/-- Row `i` of block `b` of 32 blocks of 128 rows. -/
def rowIx (b : Fin 32) (i : S128x2048.Idx) : S4096x2048.Idx :=
  fun | 0 => ⟨128 * b.val + (i 0).val, by have : (i 0).val < 128 := (i 0).isLt; have := b.isLt; show _ < 4096; omega⟩
      | 1 => ⟨(i 1).val, (i 1).isLt⟩
/-- The block an index lies in, -/
def blkOf (y : S4096x2048.Idx) : Fin 32 := ⟨(y 0).val / 128, by have : (y 0).val < 4096 := (y 0).isLt; omega⟩
/-- and its place there. -/
def locOf (y : S4096x2048.Idx) : S128x2048.Idx :=
  fun | 0 => ⟨(y 0).val % 128, Nat.mod_lt _ (by decide)⟩ | 1 => ⟨(y 1).val, (y 1).isLt⟩

theorem blkOf_rowIx (b : Fin 32) (i : S128x2048.Idx) : blkOf (rowIx b i) = b := by
  refine Fin.ext ?_
  show (128 * b.val + (i 0).val) / 128 = b.val
  have : (i 0).val < 128 := (i 0).isLt
  omega
theorem locOf_rowIx (b : Fin 32) (i : S128x2048.Idx) : locOf (rowIx b i) = i := by
  have : (i 0).val < 128 := (i 0).isLt
  refine ext2 ?_ rfl
  show (128 * b.val + (i 0).val) % 128 = (i 0).val
  omega
theorem rowIx_loc (y : S4096x2048.Idx) : rowIx (blkOf y) (locOf y) = y := by
  refine ext2 ?_ rfl
  show 128 * ((y 0).val / 128) + (y 0).val % 128 = (y 0).val
  omega

/-- The place of an index in its block of 512 rows. -/
def loc512 (y : S4096x2048.Idx) : S512x2048.Idx :=
  fun | 0 => ⟨(y 0).val % 512, Nat.mod_lt _ (by decide)⟩ | 1 => ⟨(y 1).val, (y 1).isLt⟩

/-- The rows of `G` in block `b` of 32. -/
def rows {α : Type} (b : Fin 32) (G : S4096x2048.Idx → α) : S128x2048.Idx → α := fun i => G (rowIx b i)

/-- Eight blocks of 512 rows put together; block `7 - n` is `X n`. -/
def glue {α : Type} (X : ℕ → S512x2048.Idx → α) : S4096x2048.Idx → α := fun y => X (7 - (y 0).val / 512) (loc512 y)

theorem glue_emb {α : Type} (X : ℕ → S512x2048.Idx → α) (n : ℕ) (hn : n ≤ 7) (i : S512x2048.Idx) : glue X ((rO n).emb i) = X n i := by
  have h0 : (i 0).val < 512 := (i 0).isLt
  have e0 : (((rO n).emb i) 0).val = 512 * (7 - n) + (i 0).val := by
    show 512 * (7 - n) + 1 * (i 0).val = _; omega
  have e1 : (((rO n).emb i) 1).val = (i 1).val := by
    show 0 + 1 * (i 1).val = _; omega
  unfold glue
  have h1 : 7 - (((rO n).emb i) 0).val / 512 = n := by rw [e0]; omega
  rw [h1]
  congr 1
  refine ext2 ?_ e1
  show (((rO n).emb i) 0).val % 512 = (i 0).val
  rw [e0]; omega

theorem mem_rO (n : ℕ) (y : S4096x2048.Idx) : y ∈ (rO n).set ↔ 512 * (7 - n) ≤ (y 0).val ∧ (y 0).val < 512 * (7 - n) + 512 := by
  rw [Rect.mem_set_unit]
  constructor
  · intro h; exact h 0
  · intro h a
    fin_cases a
    · exact h
    · exact ⟨Nat.zero_le _, by have : (y 1).val < 2048 := (y 1).isLt; show (y 1).val < 0 + 2048; omega⟩

theorem rRow_emb (b : Fin 32) (o : Fin 2 → ℕ) (h) (ho : o = ![128 * b.val, 0]) (i : S128x2048.Idx) : (rRow o h).emb i = rowIx b i := by
  subst ho
  refine ext2 ?_ ?_
  · show 128 * b.val + 1 * (i 0).val = 128 * b.val + (i 0).val; omega
  · show 0 + 1 * (i 1).val = (i 1).val; omega

theorem mem_rRow (b : Fin 32) (o : Fin 2 → ℕ) (h) (ho : o = ![128 * b.val, 0]) (y : S4096x2048.Idx) :
    y ∈ (rRow o h).set ↔ blkOf y = b := by
  constructor
  · intro hy
    obtain ⟨i, rfl⟩ := (rRow o h).exists_idx_of_mem hy
    show blkOf ((rRow o h).emb i) = b
    rw [rRow_emb b o h ho, blkOf_rowIx]
  · rintro rfl
    have := (rRow o h).idx_mem (locOf y)
    rwa [show (rRow o h).idx (locOf y) = y from (rRow_emb _ o h ho (locOf y)).trans (rowIx_loc y)] at this

/-- The block that device `c` adds at round `j` of the reduction: the one `j + 1` before its own. -/
def redB (c : Dev nD) (j : ℕ) : Fin 32 := ⟨(c.val + 31 - j) % 32, Nat.mod_lt _ (by decide)⟩
/-- The block that device `c` receives at round `g` of the gathering: the one `g` before its own. -/
def gatB (c : Dev nD) (g : ℕ) : Fin 32 := ⟨(c.val + 32 - g) % 32, Nat.mod_lt _ (by decide)⟩
theorem offR_eq (c : Dev nD) (j : ℕ) (h : j < 31) : offR c j = ![128 * (redB c j).val, 0] := Gen.k0_off2_eq c ⟨j, h⟩
theorem offG_eq (c : Dev nD) (g : ℕ) (h : g < 31) : offG c g = ![128 * (gatB c g).val, 0] := Gen.k0_off3_eq c ⟨g, h⟩

/-! ## The contents -/

variable {F : FTy → Type} [FloatOps F]

section Contents

variable (A : Dev nD → S4096x128.Idx → F .bf16) (B : Dev nD → S128x2048.Idx → F .bf16)

/-- Device `c`'s partial product, of its columns of the first operand and its rows of the second. -/
def part (c : Dev nD) : S4096x2048.Idx → F .f32 := glue fun n => mmBlock (B c) fun i => A c ((rA n).emb i)

/-- The rows that device `c`'s sending slot holds before hop `j`: its own rows of its partial product; then, after a hop of the
    reduction, what came from the device before plus the rows of its own partial product; after a hop of the gathering, what came. -/
def val : ℕ → Dev nD → S128x2048.Idx → F .f32
  | 0, c => rows c (part A B c)
  | j + 1, c => if j < 31 then addf (s := S128x2048) (val j (prv c)) (rows (redB c j) (part A B c)) else val j (prv c)

/-- The summed product: block `b` is summed up on device `b - 1`. -/
def gath : S4096x2048.Idx → F .f32 := fun y => val A B 31 (prv (blkOf y)) (locOf y)

/-- The largest absolute value of `m` and the last `n` row blocks of `G`. -/
def maxFrom (G : S4096x2048.Idx → F .f32) : ℕ → F .f32 → F .f32
  | 0, m => m
  | n + 1, m => maxFrom G n (Scalar.maximumf m (blkMax fun i => G ((rO n).emb i)))

/-- The largest absolute value of `G`, as the kernel computes it. -/
def top (G : S4096x2048.Idx → F .f32) : F .f32 := maxFrom G 8 (Scalar.ofBits .f32 0x00000000#32)

/-- `G` quantised at scale `s`. -/
def quant (s : F .f32) (G : S4096x2048.Idx → F .f32) : S4096x2048.Idx → F .f32 := glue fun n => quantBlk s fun i => G ((rO n).emb i)

/-- The kernel's result, the same on every device. -/
def out : S4096x2048.Idx → F .f32 :=
  quant (Scalar.divf (top (gath A B)) (Scalar.ofBits .f32 0x42FE0000#32)) (gath A B)

/-- A hop of the gathering passes on what the device before held; so at hop `31 + g` a device holds what was summed up `g` before it. -/
theorem val_gather (g : ℕ) (hg : g ≤ 31) : ∀ c : Dev nD, val A B (31 + g) c = val A B 31 ⟨(c.val + 32 - g) % 32, Nat.mod_lt _ (by decide)⟩ := by
  induction g with
  | zero => intro c; exact congrArg (val A B 31) (Fin.ext (by show c.val = (c.val + 32 - 0) % 32; have : c.val < 32 := c.isLt; omega))
  | succ g ih =>
    intro c
    show (if 31 + g < 31 then _ else val A B (31 + g) (prv c)) = _
    rw [if_neg (by omega), ih (by omega) (prv c)]
    refine congrArg (val A B 31) (Fin.ext ?_)
    show ((c.val + 31) % 32 + 32 - g) % 32 = (c.val + 32 - (g + 1)) % 32
    have : c.val < 32 := c.isLt
    omega

/-- What hop `31 + g` stores is block `gatB c g` of the summed product; -/
theorem val_gat (c : Dev nD) (g : ℕ) (hg : g < 31) (i : S128x2048.Idx) : val A B (31 + g + 1) c i = gath A B (rowIx (gatB c g) i) := by
  unfold gath
  rw [blkOf_rowIx, locOf_rowIx, show 31 + g + 1 = 31 + (g + 1) from rfl, val_gather A B (g + 1) (by omega) c]
  refine congrFun (congrArg (val A B 31) (Fin.ext ?_)) i
  show (c.val + 32 - (g + 1)) % 32 = ((c.val + 32 - g) % 32 + 31) % 32
  have : c.val < 32 := c.isLt
  omega

/-- what hop 30 stores is block `redB c 30` of it. -/
theorem val_red (c : Dev nD) (i : S128x2048.Idx) : val A B 31 c i = gath A B (rowIx (redB c 30) i) := by
  unfold gath
  rw [blkOf_rowIx, locOf_rowIx]
  refine congrFun (congrArg (val A B 31) (Fin.ext ?_)) i
  show c.val = ((c.val + 31 - 30) % 32 + 31) % 32
  have : c.val < 32 := c.isLt
  omega

end Contents

/-! ## Loads and stores of the result's buffer -/

/-- A load through a rectangle reads the contents there. -/
theorem read_oM (r : Rect S4096x2048) (f : S4096x2048.Idx → F .f32) : (oM.access r).read (Elt F) f = fun i => f (r.emb i) := rfl
theorem read_aM (r : Rect S4096x128) (f : S4096x128.Idx → F .bf16) : (aM.access r).read (Elt F) f = fun i => f (r.emb i) := rfl

/-- A store of `G`'s values through a rectangle makes the contents agree with `G` there, -/
theorem write_oM_mem (r : Rect S4096x2048) (f G : S4096x2048.Idx → F .f32) (w : r.shape.Idx → F .f32) (hw : ∀ i, w i = G (r.emb i))
    (y : S4096x2048.Idx) (hy : y ∈ r.set) : (oM.access r).write (Elt F) f w Finset.univ y = G y := by
  obtain ⟨i, rfl⟩ := r.exists_idx_of_mem hy
  exact (View.read_slice_write_emb (v := oM.view) (Val := Elt F) r f w (Finset.mem_univ i)).trans (hw i)

/-- and leaves them elsewhere. -/
theorem write_oM_not_mem (r : Rect S4096x2048) (f : S4096x2048.Idx → F .f32) (w : r.shape.Idx → F .f32)
    (y : S4096x2048.Idx) (hy : y ∉ r.set) : (oM.access r).write (Elt F) f w Finset.univ y = f y :=
  View.read_slice_write_of_not_mem (v := oM.view) (Val := Elt F) r f w Finset.univ (by rw [Rect.map_emb_univ]; exact hy)

/-- The contents agree with `G` on the first `m` rows. -/
def Upto (m : ℕ) (G f : S4096x2048.Idx → F .f32) : Prop := ∀ y, (y 0).val < m → f y = G y
/-- The contents agree with `G` from row `m` on. -/
def From (m : ℕ) (G f : S4096x2048.Idx → F .f32) : Prop := ∀ y, m ≤ (y 0).val → f y = G y

theorem Upto.all {G f : S4096x2048.Idx → F .f32} (h : Upto 4096 G f) : f = G := funext fun y => h y (y 0).isLt

/-- Storing block `7 - n` of a glued array extends the agreement by 512 rows. -/
theorem Upto.step {n : ℕ} (hn : n ≤ 7) {X : ℕ → S512x2048.Idx → F .f32} {f : S4096x2048.Idx → F .f32} (h : Upto (512 * (7 - n)) (glue X) f) :
    Upto (512 * (8 - n)) (glue X) ((oM.access (rO n)).write (Elt F) f (X n) Finset.univ) := by
  intro y hy
  by_cases hm : y ∈ (rO n).set
  · exact write_oM_mem (rO n) f (glue X) (X n) (fun i => (glue_emb X n hn i).symm) y hm
  · rw [write_oM_not_mem (rO n) f (X n) y hm]
    rw [mem_rO] at hm
    exact h y (by omega)

/-- The rows after that block keep what they held. -/
theorem From.step {n : ℕ} {w : S512x2048.Idx → F .f32} {G f : S4096x2048.Idx → F .f32} (h : From (512 * (7 - n)) G f) (hn : n ≤ 7) :
    From (512 * (8 - n)) G ((oM.access (rO n)).write (Elt F) f w Finset.univ) := by
  intro y hy
  rw [write_oM_not_mem (rO n) f w y (by rw [mem_rO]; omega)]
  exact h y (by omega)

/-- Block `7 - n` reads `G`, if the contents agree with `G` from that block on. -/
theorem From.read {n : ℕ} {G f : S4096x2048.Idx → F .f32} (h : From (512 * (7 - n)) G f) :
    (oM.access (rO n)).read (Elt F) f = fun i => G ((rO n).emb i) := by
  rw [read_oM]
  exact funext fun i => h _ (by show 512 * (7 - n) ≤ 512 * (7 - n) + 1 * (i 0).val; omega)

/-- The contents agree with `G` on the blocks `c + 1`, `c`, …, counted downwards around the ring, `n` of them. -/
def Round (c : Dev nD) (n : ℕ) (G f : S4096x2048.Idx → F .f32) : Prop := ∀ y, (c.val + 33 - (blkOf y).val) % 32 < n → f y = G y

theorem Round.zero (c : Dev nD) (G f : S4096x2048.Idx → F .f32) : Round c 0 G f := fun _ h => absurd h (Nat.not_lt_zero _)
theorem Round.all {c : Dev nD} {G f : S4096x2048.Idx → F .f32} (h : Round c 32 G f) : f = G :=
  funext fun y => h y (Nat.mod_lt _ (by decide))

/-- Storing the next block of `G` extends the agreement by it. -/
theorem Round.step {c : Dev nD} {n : ℕ} {G f : S4096x2048.Idx → F .f32} (h : Round c n G f) (b : Fin 32) (hb : (c.val + 33 - b.val) % 32 = n)
    (o : Fin 2 → ℕ) (ho' : ∀ a, o a + S128x2048.size a ≤ S4096x2048.size a) (ho : o = ![128 * b.val, 0])
    (w : S128x2048.Idx → F .f32) (hw : ∀ i, w i = G (rowIx b i)) :
    Round c (n + 1) G ((oM.access (rRow o ho')).write (Elt F) f w Finset.univ) := by
  intro y hy
  by_cases hm : y ∈ (rRow o ho').set
  · exact write_oM_mem (rRow o ho') f G w (fun i => by rw [rRow_emb b o ho' ho]; exact hw i) y hm
  · rw [write_oM_not_mem (rRow o ho') f w y hm]
    rw [mem_rRow b o ho' ho] at hm
    have hm' : (blkOf y).val ≠ b.val := fun e => hm (Fin.ext e)
    have h1 := (blkOf y).isLt
    have h2 := b.isLt
    have h3 : c.val < 32 := c.isLt
    exact h y (by omega)

theorem redB_round (c : Dev nD) : (c.val + 33 - (redB c 30).val) % 32 = 0 := by
  show (c.val + 33 - (c.val + 31 - 30) % 32) % 32 = 0
  have : c.val < 32 := c.isLt
  omega
theorem gatB_round (c : Dev nD) (g : ℕ) (hg : g < 31) : (c.val + 33 - (gatB c g).val) % 32 = g + 1 := by
  show (c.val + 33 - (c.val + 32 - g) % 32) % 32 = g + 1
  have : c.val < 32 := c.isLt
  omega

/-! ## Loads and stores of a slot -/

/-- The contents of the two slots' buffer. -/
abbrev CBuf (F : FTy → Type) : Type := S2x128x2048.Idx → F .f32

/-- A slot loaded through the buffer is the slot read as a matrix. -/
theorem slot_load (s : Fin 2) (f : CBuf F) :
    shapeCast S128x2048 ((cM.access (rC s)).read (Elt F) f) shapeCasts_S1x128x2048_S128x2048 = (slotM s).view.read (Elt F) f := rfl

/-- A slot stored through the buffer reads, as a matrix, what was stored. -/
theorem slot_store (s : Fin 2) (f : CBuf F) (X : S128x2048.Idx → F .f32) :
    (slotM s).view.read (Elt F) ((cM.access (rC s)).write (Elt F) f (shapeCast S1x128x2048 X shapeCasts_S128x2048_S1x128x2048) Finset.univ) = X := by
  rw [← slot_load, View.read_write_univ]
  exact shapeCast_shapeCast _ _ _

theorem slot_set (s : Fin 2) : (cM.access (rC s)).set = (slotM s).view.set := (View.set_reshape _ _).symm

/-- The sum stored into a slot that held `X`. -/
theorem accum_eq (s : Fin 2) (f : CBuf F) (X : S128x2048.Idx → F .f32) (hf : (slotM s).view.read (Elt F) f = X) (w : S128x2048.Idx → F .f32) :
    accum ((cM.access (rC s)).read (Elt F) f) w = addf (s := S128x2048) X w := by
  unfold accum
  rw [slot_load, hf, shapeCast_self]

end Cert.RingProof

end
-- ==== Proof.Common.lean ====
/-
  The protocol between the devices. Each device has seven semaphore cells: the runtime's barrier, a departure cell and an arrival
  cell for each of the two slots, the credit cell, and the closing barrier. For each cell this module says how many rounds it
  goes through, who pays a round, and what the payer hands the cell's owner with the payment (`sched`); what a device owes
  the others when its body starts and after each hop (`owed`); and the levels by which every wait is for something below what
  the waiting device still owes, so that the devices cannot wait in a circle (`lv`).

  Hop `j` of 62 sends slot `par j` of a device to slot `par (j + 1)` of the next device. The rows that a device's sending slot holds
  before hop `j` are a parameter here, `X j c`.
-/
module

public import proofs.«01_k».proof.Proof.Vals
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds

@[expose] public section

noncomputable section

namespace Cert.RingProof

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The pipeline's rounds, -/
abbrev UP : Type := URounds (GSem nD τ sig) Unit
/-- the ring's rounds, with up to two duties each, named by `Bool`, -/
abbrev UH : Type := URounds (GSem nD τ sig) Bool
/-- and the two side by side. -/
abbrev UU : Type := UP × UH

local notation "𝕄" => MT nD τ sig ℕ (Elt F) ℕ UU ℕ

/-- The pipeline's rounds inside the whole algebra, -/
def EP : Emb UP (MT nD τ sig ℕ (Elt F) ℕ UU ℕ) :=
  (Emb.inl : Emb UP UU).trans (uEmb (nD := nD) (sig := sig) (Ix := ℕ) (Val := Elt F) (Name := ℕ) (U := UU) (Lvl := ℕ)).toEmb
/-- and the ring's. -/
def ER : Emb UH (MT nD τ sig ℕ (Elt F) ℕ UU ℕ) :=
  (Emb.inr : Emb UH UU).trans (uEmb (nD := nD) (sig := sig) (Ix := ℕ) (Val := Elt F) (Name := ℕ) (U := UU) (Lvl := ℕ)).toEmb

instance EP_landsIn : (EP : Emb UP 𝕄).LandsIn (upEmb : UEmb _ 𝕄) := by unfold EP; infer_instance
instance ER_landsIn : (ER : Emb UH 𝕄).LandsIn (upEmb : UEmb _ 𝕄) := by unfold ER; infer_instance

/-! ## The cells -/

/-- Device `c`'s departure and arrival cells of slot `s`, its credit cell and its two barriers. -/
abbrev sCell (c : Dev nD) (s : Fin 2) : GSem nD τ sig := ((c : Thread nD τ), .dma (sS s))
abbrev vCell (c : Dev nD) (s : Fin 2) : GSem nD τ sig := ((c : Thread nD τ), .dma (rS s))
abbrev cCell (c : Dev nD) : GSem nD τ sig := ((c : Thread nD τ), .reg crdS)
abbrev bCell (c : Dev nD) : GSem nD τ sig := ((c : Thread nD τ), .reg barS)
abbrev dCell (c : Dev nD) : GSem nD τ sig := ((c : Thread nD τ), .reg endS)

theorem bar_ne_crd : (barS : Sem sig) ≠ crdS := by decide
theorem end_ne_crd : (endS : Sem sig) ≠ crdS := by decide
theorem end_ne_bar : (endS : Sem sig) ≠ barS := by decide

/-- What a transfer of one slot credits. -/
abbrev N : ℕ := (slotM 0).view.dmaCredit
theorem N_pos : 0 < N := View.dmaCredit_pos _ (by decide)
theorem N_slot (s : Fin 2) : (slotM s).view.dmaCredit = N := rfl

theorem par_val (j : ℕ) : (par j).val = j % 2 := rfl
theorem par_two (j : ℕ) : par (j + 2) = par j := Fin.ext (by show (j + 2) % 2 = j % 2; omega)
theorem par_ne (j : ℕ) : par (j + 1) ≠ par j := fun h => by
  have : (j + 1) % 2 = j % 2 := congrArg Fin.val h
  omega

/-! ## What the payments hand over -/

/-- Slot `s` of device `c`, held whole, holding `X`; -/
def slotAt (c : Dev nD) (s : Fin 2) (X : S128x2048.Idx → F .f32) : sProp 𝕄 :=
  iprop(∃ f : Buf (Elt F) ((slotM s).view.loc (c : Thread nD τ)), ⌜(slotM s).view.read (Elt F) f = X⌝
    ∗ ((slotM s).view.loc (c : Thread nD τ) ↦[(slotM s).view.set]{fullShare} f))
/-- holding anything. -/
def slotAny (c : Dev nD) (s : Fin 2) : sProp 𝕄 := iprop(∃ X, slotAt c s X)

instance slotAt_storable (c : Dev nD) (s : Fin 2) (X : S128x2048.Idx → F .f32) : BI.Storable (upEmb : UEmb _ 𝕄) (slotAt c s X) := by
  unfold slotAt; infer_instance
instance slotAny_storable (c : Dev nD) (s : Fin 2) : BI.Storable (upEmb : UEmb _ 𝕄) (slotAny (F := F) c s) := by
  unfold slotAny; infer_instance

/-- With its barrier signal the next device gives up its slot 1, which hop 0 will write. -/
def barPay (c : Dev nD) : sProp 𝕄 := slotAny (nxt c) 1
/-- With credit `j` the next device gives up the slot its hop `j` has sent from, which this device's hop `j + 1` will write, and tells
    the round that slot's arrivals are at. -/
def crdPay (c : Dev nD) (j : ℕ) : sProp 𝕄 := iprop(slotAny (nxt c) (par j) ∗ reached ER (vCell (nxt c) (par j)) ((j + 1) / 2))

variable (X : ℕ → Dev nD → S128x2048.Idx → F .f32)

/-- With the departure of hop `j` a device gets its sending slot back; -/
def sendPay (c : Dev nD) (j : ℕ) : sProp 𝕄 := slotAt c (par j) (X j c)
/-- with the arrival of hop `j` it gets its receiving slot, holding the rows of the device before, and that device tells the round its
    credits are at. -/
def recvPay (c : Dev nD) (j : ℕ) : sProp 𝕄 := iprop(slotAt c (par (j + 1)) (X j (prv c)) ∗ reached ER (cCell (prv c)) j)

/-! ## The schedule -/

/-- The duties of a cell's round: one for a slot's cell in its rounds below 31 and for the credit cell in its rounds below 61, two
    for a barrier in round 0. -/
def dutiesOf : SemLoc sig → ℕ → Finset Bool
  | .reg q, r => if q = crdS then (if r < 61 then {false} else ∅) else (if r = 0 then Finset.univ else ∅)
  | .dma q, r => if q.val < 3 then ∅ else if r < 31 then {false} else ∅

/-- What a duty hands over. The cell of a slot sees every second hop. -/
def payOf (c : Dev nD) : SemLoc sig → ℕ → Bool → sProp 𝕄
  | .reg q, r, d => if q = crdS then crdPay c r else if q = barS ∧ d = true then barPay c else iprop(emp)
  | .dma q, r, _ => if q.val < 5 then sendPay X c (2 * r + (q.val + 1) % 2) else recvPay X c (2 * r + q.val % 2)

/-- How much a duty counts. -/
def amountOf : SemLoc sig → ℕ
  | .reg _ => 1
  | .dma _ => N

/-- The ring's schedule. -/
def sched : Rounds.Schedule (GSem nD τ sig) Bool 𝕄 where
  duties g r := if g.1.2 = .tc then dutiesOf g.2 r else ∅
  unitless _ := False
  amount g _ _ := amountOf g.2
  payload g r d := payOf X g.1.1 g.2 r d
  amount_pos g _ _ _ := by
    rcases g with ⟨t, q | q⟩
    · exact Nat.one_pos
    · exact N_pos

instance sched_storable (g : GSem nD τ sig) (r : ℕ) (d : Bool) : BI.Storable (upEmb : UEmb _ 𝕄) ((sched X).payload g r d) := by
  rcases g with ⟨t, q | q⟩
  · show BI.Storable upEmb (if q = crdS then crdPay t.1 r else if q = barS ∧ d = true then barPay t.1 else iprop(emp))
    unfold crdPay barPay
    (repeat' split) <;> infer_instance
  · show BI.Storable upEmb (if q.val < 5 then sendPay X t.1 (2 * r + (q.val + 1) % 2) else recvPay X t.1 (2 * r + q.val % 2))
    unfold sendPay recvPay
    (repeat' split) <;> infer_instance

section Sched

variable (c : Dev nD)

theorem duties_tc (sm : SemLoc sig) (r : ℕ) : (sched X).duties ((c : Thread nD τ), sm) r = dutiesOf sm r := by
  dsimp only [sched]; exact if_pos rfl

theorem duties_s (s : Fin 2) (r : ℕ) (h : r < 31) : (sched X).duties (sCell c s) r = {false} := by
  rw [duties_tc]
  show (if 3 + s.val < 3 then (∅ : Finset Bool) else if r < 31 then {false} else ∅) = _
  rw [if_neg (by omega), if_pos h]
theorem duties_v (s : Fin 2) (r : ℕ) (h : r < 31) : (sched X).duties (vCell c s) r = {false} := by
  rw [duties_tc]
  show (if 5 + s.val < 3 then (∅ : Finset Bool) else if r < 31 then {false} else ∅) = _
  rw [if_neg (by omega), if_pos h]
theorem duties_c (r : ℕ) (h : r < 61) : (sched X).duties (cCell c) r = {false} := by
  rw [duties_tc]; unfold dutiesOf; dsimp only; rw [if_pos rfl, if_pos h]
theorem duties_b : (sched X).duties (bCell c) 0 = {false, true} := by
  rw [duties_tc]; unfold dutiesOf; dsimp only; rw [if_neg bar_ne_crd, if_pos rfl]; decide
theorem duties_d : (sched X).duties (dCell c) 0 = {false, true} := by
  rw [duties_tc]; unfold dutiesOf; dsimp only; rw [if_neg end_ne_crd, if_pos rfl]; decide
/-- After its last round a cell has no duty. -/
theorem duties_dma_end (q : DmaSem sig) : ∀ r, 31 ≤ r → (sched X).duties ((c : Thread nD τ), .dma q) r = ∅ := fun r hr => by
  rw [duties_tc]; unfold dutiesOf; dsimp only; rw [if_neg (show ¬ r < 31 by omega)]; exact ite_self _
theorem duties_c_end : ∀ r, 61 ≤ r → (sched X).duties (cCell c) r = ∅ := fun r hr => by
  rw [duties_tc]; unfold dutiesOf; dsimp only; rw [if_pos rfl, if_neg (by omega)]
theorem duties_b_end : ∀ r, 1 ≤ r → (sched X).duties (bCell c) r = ∅ := fun r hr => by
  rw [duties_tc]; unfold dutiesOf; dsimp only; rw [if_neg bar_ne_crd, if_neg (by omega)]
theorem duties_d_end : ∀ r, 1 ≤ r → (sched X).duties (dCell c) r = ∅ := fun r hr => by
  rw [duties_tc]; unfold dutiesOf; dsimp only; rw [if_neg end_ne_crd, if_neg (by omega)]

theorem expect_s (s : Fin 2) (r : ℕ) (h : r < 31) : (sched X).expect (sCell c s) r = N := by
  unfold Schedule.expect Schedule.amountOf; rw [duties_s X c s r h, Finset.sum_singleton]; rfl
theorem expect_v (s : Fin 2) (r : ℕ) (h : r < 31) : (sched X).expect (vCell c s) r = N := by
  unfold Schedule.expect Schedule.amountOf; rw [duties_v X c s r h, Finset.sum_singleton]; rfl
theorem expect_c (r : ℕ) (h : r < 61) : (sched X).expect (cCell c) r = 1 := by
  unfold Schedule.expect Schedule.amountOf; rw [duties_c X c r h, Finset.sum_singleton]; rfl
theorem expect_b : (sched X).expect (bCell c) 0 = 2 := by
  unfold Schedule.expect Schedule.amountOf; rw [duties_b]; rfl
theorem expect_d : (sched X).expect (dCell c) 0 = 2 := by
  unfold Schedule.expect Schedule.amountOf; rw [duties_d]; rfl

/-- The payload of hop `j`'s departure, of its arrival, of credit `j`, of the barriers. -/
theorem payload_s (j : ℕ) : (sched X).payload (sCell c (par j)) (j / 2) false = sendPay X c j := by
  show (if 3 + j % 2 < 5 then sendPay X c (2 * (j / 2) + (3 + j % 2 + 1) % 2) else recvPay X c (2 * (j / 2) + (3 + j % 2) % 2)) = _
  rw [if_pos (by omega), show 2 * (j / 2) + (3 + j % 2 + 1) % 2 = j by omega]
theorem payload_v (j : ℕ) : (sched X).payload (vCell c (par (j + 1))) (j / 2) false = recvPay X c j := by
  show (if 5 + (j + 1) % 2 < 5 then sendPay X c (2 * (j / 2) + (5 + (j + 1) % 2 + 1) % 2) else recvPay X c (2 * (j / 2) + (5 + (j + 1) % 2) % 2)) = _
  rw [if_neg (by omega), show 2 * (j / 2) + (5 + (j + 1) % 2) % 2 = j by omega]
theorem payload_c (j : ℕ) : (sched X).payload (cCell c) j false = crdPay c j := by
  dsimp only [sched, payOf]; exact if_pos rfl
theorem payload_b_true : (sched X).payload (bCell c) 0 true = barPay c := by
  dsimp only [sched, payOf]; rw [if_neg bar_ne_crd]; exact if_pos ⟨rfl, rfl⟩
theorem payload_b_false : (sched X).payload (bCell c) 0 false = iprop(emp) := by
  dsimp only [sched, payOf]; rw [if_neg bar_ne_crd]; exact if_neg fun h => Bool.false_ne_true h.2
theorem payload_d (d : Bool) : (sched X).payload (dCell c) 0 d = iprop(emp) := by
  dsimp only [sched, payOf]; rw [if_neg end_ne_crd]; exact if_neg fun h => end_ne_bar h.1

/-- What a whole round hands over. -/
theorem rest_s (j : ℕ) (h : j < 62) : bigSep ((sched X).duties (sCell c (par j)) (j / 2) \ ∅) (fun d => (sched X).payload (sCell c (par j)) (j / 2) d) = sendPay X c j := by
  rw [Finset.sdiff_empty, duties_s X c _ _ (by omega), bigSep_singleton, payload_s]
theorem rest_v (j : ℕ) (h : j < 62) : bigSep ((sched X).duties (vCell c (par (j + 1))) (j / 2) \ ∅) (fun d => (sched X).payload (vCell c (par (j + 1))) (j / 2) d) = recvPay X c j := by
  rw [Finset.sdiff_empty, duties_v X c _ _ (by omega), bigSep_singleton, payload_v]
theorem rest_c (j : ℕ) (h : j < 61) : bigSep ((sched X).duties (cCell c) j \ ∅) (fun d => (sched X).payload (cCell c) j d) = crdPay c j := by
  rw [Finset.sdiff_empty, duties_c X c _ h, bigSep_singleton, payload_c]
theorem rest_b : bigSep ((sched X).duties (bCell c) 0 \ ∅) (fun d => (sched X).payload (bCell c) 0 d) = iprop(emp ∗ barPay c) := by
  rw [Finset.sdiff_empty, duties_b, bigSep_insert (by decide), bigSep_singleton, payload_b_true, payload_b_false]; rfl
theorem rest_d : bigSep ((sched X).duties (dCell c) 0 \ ∅) (fun d => (sched X).payload (dCell c) 0 d) = iprop(emp ∗ emp) := by
  rw [Finset.sdiff_empty, duties_d, bigSep_insert (by decide), bigSep_singleton, payload_d, payload_d]; rfl

end Sched

/-! ## What a device owes, and the levels -/

/-- The numbers from `i` on are `i` and those from `i + 1` on. -/
theorem Ico_peel {i n : ℕ} (h : i < n) : Finset.Ico i n = insert i (Finset.Ico (i + 1) n) := by
  ext k; simp only [Finset.mem_Ico, Finset.mem_insert]; omega
theorem Ico_peel_notin (i n : ℕ) : i ∉ Finset.Ico (i + 1) n := by
  simp only [Finset.mem_Ico]; omega

/-- Device `c` owes the credits from `i` on, the arrivals of hops from `j` on, and the signals of the closing barrier. -/
def owed (c : Dev nD) (i j : ℕ) : CellTallies nD τ sig ℕ :=
  (tallyAt (dCell (nxt c)) 0 1 + tallyAt (dCell (prv c)) 0 1) + (∑ k ∈ Finset.Ico i 61, tallyAt (cCell (prv c)) k 1)
    + ∑ k ∈ Finset.Ico j 62, tallyAt (vCell (nxt c) (par (k + 1))) k N

/-- At the start of its body it owes the signals of the opening barrier besides. -/
def O₀ (c : Dev nD) : CellTallies nD τ sig ℕ := owed c 0 0 + tallyAt (bCell (nxt c)) 0 1 + tallyAt (bCell (prv c)) 0 1

/-- Hop `j`'s transfer pays an arrival, -/
theorem owed_xfer (c : Dev nD) (i j : ℕ) (h : j < 62) : owed c i j = owed c i (j + 1) + tallyAt (vCell (nxt c) (par (j + 1))) j N := by
  unfold owed
  rw [Ico_peel h, Finset.sum_insert (Ico_peel_notin _ _), add_assoc _ _ (tallyAt _ _ _), add_comm (tallyAt _ _ _) (Finset.sum _ _)]
/-- and the signal after it a credit. -/
theorem owed_credit (c : Dev nD) (i j : ℕ) (h : i < 61) : owed c i j = owed c (i + 1) j + tallyAt (cCell (prv c)) i 1 := by
  unfold owed
  rw [Ico_peel h, Finset.sum_insert (Ico_peel_notin _ _), add_comm (tallyAt (cCell (prv c)) i 1) (Finset.sum _ _), ← add_assoc, add_right_comm]
/-- In the end the closing barrier's signals are left. -/
theorem owed_end (c : Dev nD) (i j : ℕ) (hi : 61 ≤ i) (hj : 62 ≤ j) : owed c i j = tallyAt (dCell (nxt c)) 0 1 + tallyAt (dCell (prv c)) 0 1 := by
  unfold owed
  rw [Finset.Ico_eq_empty (by omega), Finset.Ico_eq_empty (by omega), Finset.sum_empty, Finset.sum_empty, add_zero, add_zero]

/-- Every cell of a TensorCore has levels at the indices below 62; -/
def L (g : GSem nD τ sig) : Finset ℕ := if g.1.2 = .tc then Finset.range 62 else ∅
/-- departures and the pipeline's cells are lowest, then the opening barrier, then the hops' arrivals and credits in their order, then
    the closing barrier. -/
def lv (g : GSem nD τ sig) (k : ℕ) : ℕ := match g.2 with
  | .reg q => if q = crdS then 2 * k + 3 else if q = barS then 1 else 200
  | .dma q => if q.val < 5 then 0 else 2 * k + 2

theorem L_of_ne (g : GSem nD τ sig) (h : g.1.2 ≠ .tc) : L g = ∅ := if_neg h
theorem L_tc (c : Dev nD) (sm : SemLoc sig) : L ((c : Thread nD τ), sm) = Finset.range 62 := if_pos rfl

theorem lv_s (c : Dev nD) (s : Fin 2) (k : ℕ) : lv (sCell c s) k = 0 := by
  show (if 3 + s.val < 5 then 0 else 2 * k + 2) = 0; rw [if_pos (by omega)]
theorem lv_v (c : Dev nD) (s : Fin 2) (k : ℕ) : lv (vCell c s) k = 2 * k + 2 := by
  show (if 5 + s.val < 5 then 0 else 2 * k + 2) = _; rw [if_neg (by omega)]
theorem lv_c (c : Dev nD) (k : ℕ) : lv (cCell c) k = 2 * k + 3 := by dsimp only [lv]; rw [if_pos rfl]
theorem lv_b (c : Dev nD) (k : ℕ) : lv (bCell c) k = 1 := by dsimp only [lv]; rw [if_neg bar_ne_crd, if_pos rfl]
theorem lv_d (c : Dev nD) (k : ℕ) : lv (dCell c) k = 200 := by dsimp only [lv]; rw [if_neg end_ne_crd, if_neg end_ne_bar]

/-- A tally at one place is positive only there. -/
theorem tallyAt_pos {g g' : GSem nD τ sig} {k k' n : ℕ} (h : 0 < (tallyAt g k n : CellTallies nD τ sig ℕ) g' k') : g' = g ∧ k' = k := by
  rw [tallyAt_apply] at h
  by_contra hn
  rw [if_neg hn] at h
  exact Nat.lt_irrefl 0 h

/-- A sum of tallies is positive only where one of them is. -/
theorem tallySum_pos {S : Finset ℕ} {f : ℕ → CellTallies nD τ sig ℕ} {g : GSem nD τ sig} {k : ℕ} (h : 0 < (∑ i ∈ S, f i) g k) :
    ∃ i ∈ S, 0 < f i g k := by
  rw [Finset.sum_apply, Finsupp.finset_sum_apply] at h
  exact (Finset.sum_pos_iff).mp h

theorem tallyAdd_pos {O O' : CellTallies nD τ sig ℕ} {g : GSem nD τ sig} {k : ℕ} (h : 0 < (O + O') g k) : 0 < O g k ∨ 0 < O' g k := by
  rw [Pi.add_apply, Finsupp.add_apply] at h
  omega

/-- Where a device owes something: what, and at which index. -/
theorem owed_pos {c : Dev nD} {i j : ℕ} {g : GSem nD τ sig} {k : ℕ} (h : 0 < owed c i j g k) :
    ((g = dCell (nxt c) ∨ g = dCell (prv c)) ∧ k = 0) ∨ (g = cCell (prv c) ∧ i ≤ k ∧ k < 61) ∨ (g = vCell (nxt c) (par (k + 1)) ∧ j ≤ k ∧ k < 62) := by
  unfold owed at h
  rcases tallyAdd_pos h with h | h
  · rcases tallyAdd_pos h with h | h
    · rcases tallyAdd_pos h with h | h
      · exact .inl ⟨.inl (tallyAt_pos h).1, (tallyAt_pos h).2⟩
      · exact .inl ⟨.inr (tallyAt_pos h).1, (tallyAt_pos h).2⟩
    · obtain ⟨n, hn, h⟩ := tallySum_pos h
      obtain ⟨h1, h2⟩ := tallyAt_pos h
      subst h2
      exact .inr (.inl ⟨h1, Finset.mem_Ico.mp hn⟩)
  · obtain ⟨n, hn, h⟩ := tallySum_pos h
    obtain ⟨h1, h2⟩ := tallyAt_pos h
    subst h2
    exact .inr (.inr ⟨h1, Finset.mem_Ico.mp hn⟩)

/-- What a device owes is levelled, above `2 i + 2` for its credits and above `2 j + 1` for its arrivals. -/
theorem owed_level {c : Dev nD} {i j : ℕ} {g : GSem nD τ sig} {k : ℕ} (h : 0 < owed c i j g k) :
    k ∈ L g ∧ (lv g k = 200 ∨ 2 * i + 3 ≤ lv g k ∨ 2 * j + 2 ≤ lv g k) := by
  rcases owed_pos h with ⟨h1, rfl⟩ | ⟨rfl, h1, h2⟩ | ⟨rfl, h1, h2⟩
  · rcases h1 with rfl | rfl
    · rw [L_tc, lv_d]; exact ⟨Finset.mem_range.mpr (by decide), .inl rfl⟩
    · rw [L_tc, lv_d]; exact ⟨Finset.mem_range.mpr (by decide), .inl rfl⟩
  · rw [L_tc, lv_c]; exact ⟨Finset.mem_range.mpr (by omega), .inr (.inl (by omega))⟩
  · rw [L_tc, lv_v]; exact ⟨Finset.mem_range.mpr (by omega), .inr (.inr (by omega))⟩

/-- A device may wait on a cell whose level is below all it still owes. -/
theorem mayWait_owed (c : Dev nD) (sm : SemLoc sig) (k i j : ℕ) (hk : k < 62) (h3 : lv ((c : Thread nD τ), sm) k < 200)
    (h1 : lv ((c : Thread nD τ), sm) k < 2 * i + 3) (h2 : lv ((c : Thread nD τ), sm) k < 2 * j + 2) :
    (levAts L lv : sProp 𝕄) ⊢ MayWait (c : Thread nD τ) sm k (owed c i j) :=
  MayOwe.of_cut (L := L) (lev := lv) (lv ((c : Thread nD τ), sm) k)
    (fun p hp => by rw [Finset.mem_singleton.mp hp, L_tc]; exact Finset.mem_range.mpr hk)
    (fun g u hg => (owed_level hg).1)
    (fun p hp => by rw [Finset.mem_singleton.mp hp])
    (fun g u hg => by rcases (owed_level hg).2 with h | h | h <;> omega)

/-- What a device owes at the start is levelled, above 0. -/
theorem O₀_level {c : Dev nD} {g : GSem nD τ sig} {k : ℕ} (h : 0 < O₀ c g k) : k ∈ L g ∧ 0 < lv g k := by
  unfold O₀ at h
  rcases tallyAdd_pos h with h | h
  · rcases tallyAdd_pos h with h | h
    · obtain ⟨h1, h2⟩ := owed_level h
      exact ⟨h1, by omega⟩
    · obtain ⟨rfl, rfl⟩ := tallyAt_pos h
      rw [L_tc, lv_b]; exact ⟨Finset.mem_range.mpr (by decide), Nat.one_pos⟩
  · obtain ⟨rfl, rfl⟩ := tallyAt_pos h
    rw [L_tc, lv_b]; exact ⟨Finset.mem_range.mpr (by decide), Nat.one_pos⟩

/-- A device may wait on a cell of the pipeline, owing what it owes at the start or nothing. -/
theorem mayWait_stage (c : Dev nD) (q : DmaSem sig) (hq : q.val < 3) (O : CellTallies nD τ sig ℕ) (hO : O = O₀ c ∨ O = 0) :
    (levAts L lv : sProp 𝕄) ⊢ MayWait (c : Thread nD τ) (.dma q) 0 O := by
  rcases hO with rfl | rfl
  · refine MayOwe.of_cut (L := L) (lev := lv) 0 (fun p hp => by rw [Finset.mem_singleton.mp hp, L_tc]; exact Finset.mem_range.mpr (show 0 < 62 by decide))
      (fun g u hg => (O₀_level hg).1)
      (fun p hp => by rw [Finset.mem_singleton.mp hp]; dsimp only [lv]; rw [if_pos (by omega)])
      (fun g u hg => (O₀_level hg).2)
  · rw [MayWait_zero]; iintro -; iempintro

end Cert.RingProof

end
-- ==== Proof.Hop.lean ====
/-
  One hop of the ring, at a symbolic number: the transfer with its two waits (`wp_xfer`), and the exchange of credits after it
  (`wp_sync`). `hopPos c j` is where a device stands before hop `j`, `hopMid c j` where it stands after the hop's transfer.
-/
module

public import proofs.«01_k».proof.Proof.Common
public import Idealize.ShloMosaic.Lib.Tactic

@[expose] public section

noncomputable section

namespace Cert.RingProof

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- Device `c`'s program `p` runs to `Q`. -/
abbrev wpC (c : Dev nD) (p : Prg F) (Q : PUnit → sProp 𝕄) : sProp 𝕄 :=
  wp frame (wpE (defs₀ (F := F)) Variants.none (c : Thread nD τ) none) Set.univ p Q

variable (X : ℕ → Dev nD → S128x2048.Idx → F .f32)

/-! ## The cells' records -/

/-- The seven semaphores of a device, in a table, -/
abbrev ksem : Fin 7 → SemLoc sig
  | 0 => .reg barS | 1 => .dma (sS 0) | 2 => .dma (sS 1) | 3 => .dma (rS 0) | 4 => .dma (rS 1) | 5 => .reg crdS | 6 => .reg endS
/-- and the cells. -/
abbrev kcell (ck : Dev nD × Fin 7) : GSem nD τ sig := ((ck.1 : Thread nD τ), ksem ck.2)

/-- A cell is kept under the schedule. -/
def kept (g : GSem nD τ sig) : sProp 𝕄 := iprop(∃ κ : ℕ, cellInv ER (sched X) κ g)
instance kept_persistent (g : GSem nD τ sig) : BI.Persistent (kept X g) := by unfold kept; infer_instance

/-- Every cell is kept, and has reached its round 0. -/
def records : sProp 𝕄 :=
  iprop((bigSep Finset.univ fun ck : Dev nD × Fin 7 => kept X (kcell ck)) ∗ bigSep Finset.univ fun ck : Dev nD × Fin 7 => reached ER (kcell ck) 0)
instance records_persistent : BI.Persistent (records X) := by unfold records; infer_instance

theorem kept_at (ck : Dev nD × Fin 7) : records X ⊢ kept X (kcell ck) := by
  unfold records
  iintro ⟨#H, -⟩
  iapply (show (bigSep Finset.univ fun ck : Dev nD × Fin 7 => kept X (kcell ck)) ⊢ kept X (kcell ck) from bigSep_elim (Finset.mem_univ ck))
  iexact H
theorem start_at (ck : Dev nD × Fin 7) : records X ⊢ (reached ER (kcell ck) 0 : sProp 𝕄) := by
  unfold records
  iintro ⟨-, #H⟩
  iapply (show (bigSep Finset.univ fun ck : Dev nD × Fin 7 => (reached ER (kcell ck) 0 : sProp 𝕄)) ⊢ reached ER (kcell ck) 0 from bigSep_elim (Finset.mem_univ ck))
  iexact H

theorem kept_s (c : Dev nD) (s : Fin 2) : records X ⊢ kept X (sCell c s) := by
  rcases s with ⟨_ | _ | s, h⟩
  · exact kept_at X (c, 1)
  · exact kept_at X (c, 2)
  · omega
theorem kept_v (c : Dev nD) (s : Fin 2) : records X ⊢ kept X (vCell c s) := by
  rcases s with ⟨_ | _ | s, h⟩
  · exact kept_at X (c, 3)
  · exact kept_at X (c, 4)
  · omega

/-! ## Where a device stands -/

/-- Before hop `j`: its own cells' rounds, and the round that the next device's arrivals are at. -/
def hopPos (c : Dev nD) (j : ℕ) : sProp 𝕄 :=
  iprop(reached ER (vCell (nxt c) (par (j + 1))) (j / 2)
    ∗ (atPos ER (sCell c (par j)) (j / 2) ∅ 0 ∗ reached ER (sCell c (par j)) (j / 2))
    ∗ (atPos ER (sCell c (par (j + 1))) ((j + 1) / 2) ∅ 0 ∗ reached ER (sCell c (par (j + 1))) ((j + 1) / 2))
    ∗ atPos ER (vCell c (par (j + 1))) (j / 2) ∅ 0
    ∗ (atPos ER (vCell c (par j)) ((j + 1) / 2) ∅ 0 ∗ reached ER (vCell c (par j)) ((j + 1) / 2))
    ∗ (atPos ER (cCell c) j ∅ 0 ∗ reached ER (cCell c) j))

/-- After hop `j`'s transfer; the device before has told the round its credits are at. -/
def hopMid (c : Dev nD) (j : ℕ) : sProp 𝕄 :=
  iprop(reached ER (cCell (prv c)) j
    ∗ (atPos ER (sCell c (par j)) (j / 2 + 1) ∅ 0 ∗ reached ER (sCell c (par j)) (j / 2 + 1))
    ∗ (atPos ER (sCell c (par (j + 1))) ((j + 1) / 2) ∅ 0 ∗ reached ER (sCell c (par (j + 1))) ((j + 1) / 2))
    ∗ (atPos ER (vCell c (par (j + 1))) (j / 2 + 1) ∅ 0 ∗ reached ER (vCell c (par (j + 1))) (j / 2 + 1))
    ∗ (atPos ER (vCell c (par j)) ((j + 1) / 2) ∅ 0 ∗ reached ER (vCell c (par j)) ((j + 1) / 2))
    ∗ (atPos ER (cCell c) j ∅ 0 ∗ reached ER (cCell c) j))

/-- What hop `j`'s transfer uses up: the right to pay its departure and its arrival, and the claim to an arrival from the device before. -/
def hopRes (c : Dev nD) (j : ℕ) : sProp 𝕄 :=
  iprop(dutyTok ER (sCell c (par j)) (j / 2) false ∗ dutyTok ER (vCell (nxt c) (par (j + 1))) (j / 2) false
    ∗ cred (tallyAt (vCell c (par (j + 1))) j N))
/-- What the exchange of credits after it uses up: the right to give one and the claim to one. -/
def crdRes (c : Dev nD) (j : ℕ) : sProp 𝕄 :=
  iprop(dutyTok ER (cCell (prv c)) j false ∗ cred (tallyAt (cCell c) j 1))

/-- What device `c` owes, whatever it has waited for. -/
def owing (c : Dev nD) (O : CellTallies nD τ sig ℕ) : sProp 𝕄 := iprop(∃ W, owes (c : Thread nD τ) O W)

set_option maxHeartbeats 1000000 in
/-- Hop `j`'s transfer: the sending slot comes back as it was, the receiving slot comes with the rows of the device before. -/
theorem wp_xfer (c : Dev nD) (j : ℕ) (hj : j < 62) (k : Prg F) (Q : PUnit → sProp 𝕄) :
    iprop((records X ∗ levAts L lv) ∗ hopPos c j ∗ slotAt c (par j) (X j c) ∗ slotAny (nxt c) (par (j + 1)) ∗ hopRes c j ∗ owing c (owed c j j))
      ⊢ iprop(((hopMid c j ∗ slotAt c (par j) (X j c) ∗ slotAt c (par (j + 1)) (X j (prv c)) ∗ owing c (owed c j (j + 1))) -∗ wpC c k Q)
          -∗ wpC c (xfer c j k) Q) := by
  unfold xfer wpC hopRes slotAny slotAt owing
  rw [right_eq]
  unfold xferTo
  iintro ⟨⟨#HR, #Hlev⟩, Hpos, ⟨%fs, %hfs, Hsrc⟩, ⟨%Y, %fd, %hfd, Hdst⟩, ⟨HtS, HtV, HcV⟩, ⟨%W, HO⟩⟩ Hk
  unfold hopPos
  icases Hpos with ⟨#HrVN, ⟨HaS, #HrS⟩, HS', HaV, HV', HaC, #HrC⟩
  ihave HIs := (kept_s X c (par j)) $$ HR
  unfold kept; icases HIs with ⟨%κs, #HIs⟩
  ihave HIv := (kept_v X c (par (j + 1))) $$ HR
  unfold kept; icases HIv with ⟨%κv, #HIv⟩
  ihave HIn := (kept_v X (nxt c) (par (j + 1))) $$ HR
  unfold kept; icases HIn with ⟨%κn, #HIn⟩
  iapply (Rounds.wp_send_pointsTo_with Variants.none ER (sched X) (c : Thread nD τ) none (c' := (nxt c : Thread nD τ))
      (src := slotM (par j)) (dst := slotM (par (j + 1))) (sS := .dma (sS (par j))) (sem := .dma (rS (par (j + 1))))
      (fs := fs) (fd := fd) (F := reached ER (cCell c) j) (κ₁ := κs) (κ₂ := κn)
      (r₁ := j / 2) (r₂ := j / 2) (d₁ := false) (d₂ := false)
      (by rw [duties_s X c _ _ (by omega)]; exact Finset.mem_singleton_self _) (by rw [duties_v X (nxt c) _ _ (by omega)]; exact Finset.mem_singleton_self _)
      j 0 N rfl rfl rfl (owed c j (j + 1)) (owed_xfer c j j hj) (W := W)
      (by
        rw [payload_s]; unfold sendPay slotAt
        iintro H; iexists fs; isplitr; · (ipureintro; exact hfs)
        iexact H)
      (by
        rw [payload_v]; unfold recvPay slotAt; rw [prv_nxt]
        iintro ⟨H, Hr⟩
        isplitl [H]
        · iexists ((slotM (par (j + 1))).view.write (Elt F) fd ((slotM (par j)).view.read (Elt F) fs) Finset.univ)
          isplitr; · (ipureintro; exact (View.read_write_univ _ _).trans hfs)
          iexact H
        iexact Hr)) $$ [Hsrc Hdst HO HtS HtV]
  · isplitr; · iexact HIs
    isplitr; · iexact HIn
    isplitl [Hsrc]; · iexact Hsrc
    isplitl [Hdst]
    · isplitl [Hdst]; · iexact Hdst
      iexact HrC
    isplitl [HO]; · iexact HO
    isplitl [HtS]; · iexact HtS
    isplitr; · iexact HrS
    isplitl [HtV]; · iexact HtV
    iexact HrVN
  iintro ⟨HcS, HO⟩
  iapply (Rounds.wp_wait_rest_token Variants.none ER (sched X) (c : Thread nD τ) none (κ := κs)
      (wpE_waitDma2_eq Variants.none (c : Thread nD τ) none Set.univ) (Set.mem_univ _) 0 (O := owed c j (j + 1)) (W := W) (R := j / 2) (m := 0) (T := ∅)
      (by rw [Nat.zero_add, expect_s X c _ _ (by omega)])) $$ [HcS HO HaS]
  · isplitr; · iexact HIs
    isplitl [HcS]; · iexact HcS
    isplitl [HO]; · iexact HO
    isplitr
    · iapply (mayWait_owed c (.dma (sS (par j))) 0 j (j + 1) (by decide) (by rw [lv_s]; decide) (by rw [lv_s]; omega) (by rw [lv_s]; omega)); iexact Hlev
    iexact HaS
  iintro ⟨HO, HaS, #HrS', Hpay⟩
  ihave Hsrc := (Entails.of_eq (rest_s X c j hj)) $$ Hpay
  iapply (Rounds.wp_wait_rest_token Variants.none ER (sched X) (c : Thread nD τ) none (κ := κv)
      (wpE_waitDma2_eq Variants.none (c : Thread nD τ) none Set.univ) (Set.mem_univ _) j (O := owed c j (j + 1)) (R := j / 2) (m := 0) (T := ∅)
      (by rw [Nat.zero_add, expect_v X c _ _ (by omega)])) $$ [HcV HO HaV]
  · isplitr; · iexact HIv
    isplitl [HcV]; · iexact HcV
    isplitl [HO]; · iexact HO
    isplitr
    · iapply (mayWait_owed c (.dma (rS (par (j + 1)))) j j (j + 1) hj (by rw [lv_v]; omega) (by rw [lv_v]; omega) (by rw [lv_v]; omega)); iexact Hlev
    iexact HaV
  iintro ⟨HO, HaV, #HrV', Hpay⟩
  ihave Hrcv := (Entails.of_eq (rest_v X c j hj)) $$ Hpay
  unfold recvPay
  icases Hrcv with ⟨Hdst, #HrCP⟩
  iapply Hk
  unfold hopMid
  isplitl [HaS HS' HaV HV' HaC]
  · isplitr; · iexact HrCP
    isplitl [HaS]
    · isplitl [HaS]; · iexact HaS
      iexact HrS'
    isplitl [HS']; · iexact HS'
    isplitl [HaV]
    · isplitl [HaV]; · iexact HaV
      iexact HrV'
    isplitl [HV']; · iexact HV'
    isplitl [HaC]; · iexact HaC
    iexact HrC
  unfold sendPay slotAt
  isplitl [Hsrc]; · iexact Hsrc
  isplitl [Hdst]; · iexact Hdst
  iexists _; iexact HO

/-- The credits after hop `j`: the slot sent from goes to the device before, the next device's comes in exchange. -/
theorem wp_sync (c : Dev nD) (j : ℕ) (hj : j < 61) (Y : S128x2048.Idx → F .f32) (k : Prg F) (Q : PUnit → sProp 𝕄) :
    iprop((records X ∗ levAts L lv) ∗ hopMid c j ∗ slotAt c (par j) Y ∗ crdRes c j ∗ owing c (owed c j (j + 1)))
      ⊢ iprop(((hopPos c (j + 1) ∗ slotAny (nxt c) (par (j + 2)) ∗ owing c (owed c (j + 1) (j + 1))) -∗ wpC c k Q)
          -∗ wpC c (sync c k) Q) := by
  unfold sync wpC crdRes owing
  rw [left_eq]
  iintro ⟨⟨#HR, #Hlev⟩, Hmid, Hslot, ⟨Htok, Hcr⟩, ⟨%W, HO⟩⟩ Hk
  unfold hopMid
  icases Hmid with ⟨#HrCP, ⟨HaS, #HrS⟩, HS', HV', ⟨HaV, #HrV⟩, HaC, #HrC⟩
  ihave HIp := (kept_at X (prv c, 5)) $$ HR
  unfold kept; icases HIp with ⟨%κp, #HIp⟩
  ihave HIc := (kept_at X (c, 5)) $$ HR
  unfold kept; icases HIc with ⟨%κc, #HIc⟩
  iapply (Rounds.wp_signal Variants.none ER (sched X) (c : Thread nD τ) none (dst := (prv c : Thread nD τ)) (κ := κp)
      (r := j) (d := false) (by rw [duties_c X (prv c) j hj]; exact Finset.mem_singleton_self _) (show 1 = (1#32).toInt.toNat by decide) j (owed c (j + 1) (j + 1))
      (owed_credit c j (j + 1) hj)) $$ [HO Htok Hslot]
  · isplitr; · iexact HIp
    isplitl [HO]; · iexact HO
    isplitl [Htok]; · iexact Htok
    isplitl [Hslot]
    · rw [payload_c]; unfold crdPay slotAny; rw [nxt_prv]
      isplitl [Hslot]; · iexists Y; iexact Hslot
      iexact HrV
    · iexact HrCP
  iintro HO
  iapply (Rounds.wp_wait_rest_token Variants.none ER (sched X) (c : Thread nD τ) none (κ := κc)
      (wpE_semWait_eq Variants.none (c : Thread nD τ) none Set.univ) (Set.mem_univ _) j (O := owed c (j + 1) (j + 1)) (W := W) (R := j) (m := 0) (T := ∅)
      (by rw [expect_c X c j hj]; decide)) $$ [Hcr HO HaC]
  · isplitr; · iexact HIc
    isplitl [Hcr]; · iexact Hcr
    isplitl [HO]; · iexact HO
    isplitr
    · iapply (mayWait_owed c (.reg crdS) j (j + 1) (j + 1) (by omega) (by rw [lv_c]; omega) (by rw [lv_c]; omega) (by rw [lv_c]; omega)); iexact Hlev
    iexact HaC
  iintro ⟨HO, HaC, #HrC', Hpay⟩
  ihave Hcrd := (Entails.of_eq (rest_c X c j hj)) $$ Hpay
  unfold crdPay
  icases Hcrd with ⟨Hslot, #HrVN⟩
  iapply Hk
  unfold hopPos
  rw [show j + 1 + 1 = j + 2 from rfl, par_two, show (j + 2) / 2 = j / 2 + 1 by omega]
  isplitl [HaS HS' HaV HV' HaC]
  · isplitr; · iexact HrVN
    isplitl [HS']; · iexact HS'
    isplitl [HaS]
    · isplitl [HaS]; · iexact HaS
      iexact HrS
    isplitl [HaV]; · iexact HaV
    isplitl [HV']; · iexact HV'
    isplitl [HaC]; · iexact HaC
    iexact HrC'
  isplitl [Hslot]; · iexact Hslot
  iexists _; iexact HO

end Cert.RingProof

end
-- ==== Proof.Body.lean ====
/-
  The body's parts that move no data between devices: the row blocks of the product, a slot's loads and stores, the stores of
  received rows, the maximum, the quantisation, and the two barriers.
-/
module

public import proofs.«01_k».proof.Proof.Hop

@[expose] public section

noncomputable section

namespace Cert.RingProof

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- The first operand's staging buffer of device `c` holds `a`; -/
def aAt (c : Dev nD) (a : S4096x128.Idx → F .bf16) : sProp 𝕄 := iprop((c : Thread nD τ).loc cc0_stg0_0 ↦{fullShare} a)
/-- the second's holds `b`; -/
def bAt (c : Dev nD) (b : S128x2048.Idx → F .bf16) : sProp 𝕄 := iprop((c : Thread nD τ).loc cc0_stg1_0 ↦{fullShare} b)
/-- the result's holds `f`. -/
def oAt (c : Dev nD) (f : S4096x2048.Idx → F .f32) : sProp 𝕄 := iprop((c : Thread nD τ).loc cc0_stg2_0 ↦{fullShare} f)

/-! ## Loads and stores through rectangles -/

/-- A load of the first operand; -/
theorem load_a (c : Dev nD) (r : Rect S4096x128) (h) (a : S4096x128.Idx → F .bf16) (k : Vec F r.shape .bf16 → Prg F) (Q : PUnit → sProp 𝕄) :
    aAt c a ⊢ iprop((aAt c a -∗ wpC c (k fun i => a (r.emb i)) Q) -∗ wpC c (.op (.load aM r.toLoadRect h) k) Q) := by
  unfold aAt
  iintro Ha Hk
  iapply (wp_load_rect Variants.none (c : Thread nD τ) none Set.univ (m := aM) (r := r) (Finset.subset_univ _)) $$ [Ha]
  · iexact Ha
  iintro Ha
  iapply Hk $$ Ha

/-- of the result; -/
theorem load_o (c : Dev nD) (r : Rect S4096x2048) (h) (f : S4096x2048.Idx → F .f32) (k : Vec F r.shape .f32 → Prg F) (Q : PUnit → sProp 𝕄) :
    oAt c f ⊢ iprop((oAt c f -∗ wpC c (k fun i => f (r.emb i)) Q) -∗ wpC c (.op (.load oM r.toLoadRect h) k) Q) := by
  unfold oAt
  iintro Ha Hk
  iapply (wp_load_rect Variants.none (c : Thread nD τ) none Set.univ (m := oM) (r := r) (Finset.subset_univ _)) $$ [Ha]
  · iexact Ha
  iintro Ha
  iapply Hk $$ Ha

/-- of the second operand, whole. -/
theorem load_b (c : Dev nD) (h) (b : S128x2048.Idx → F .bf16) (k : Vec F S128x2048 .bf16 → Prg F) (Q : PUnit → sProp 𝕄) :
    bAt c b ⊢ iprop((bAt c b -∗ wpC c (k b) Q) -∗ wpC c (.op (.load bM rB.toLoadRect h) k) Q) := by
  unfold bAt
  iintro Ha Hk
  iapply (wp_load_rect Variants.none (c : Thread nD τ) none Set.univ (m := bM) (r := rB) (Finset.subset_univ _)) $$ [Ha]
  · iexact Ha
  rw [show (bM.access rB).read (Elt F) b = b from by
    funext i; exact congrArg b (ext2 (by show 0 + 1 * (i 0).val = (i 0).val; omega) (by show 0 + 1 * (i 1).val = (i 1).val; omega))]
  iintro Ha
  iapply Hk $$ Ha

/-- A store into the result. -/
theorem store_o (c : Dev nD) (r : Rect S4096x2048) (w : FVec F r.shape .f32) (h h') (f : S4096x2048.Idx → F .f32) (k : PUnit → Prg F) (Q : PUnit → sProp 𝕄) :
    oAt c f ⊢ iprop((oAt c ((oM.access r).write (Elt F) f w Finset.univ) -∗ wpC c (k ⟨⟩) Q) -∗ wpC c (.op (.store oM r w Finset.univ h h') k) Q) := by
  unfold oAt
  iintro Ha Hk
  iapply (wp_store Variants.none (c : Thread nD τ) none Set.univ (m := oM) (r := r) (Mk := Finset.univ) (Finset.subset_univ _)) $$ [Ha]
  · iexact Ha
  iintro Ha
  iapply Hk $$ Ha

/-- A load of a slot is of contents that read, as a matrix, what the slot holds; -/
theorem load_slot (c : Dev nD) (s : Fin 2) (Y : S128x2048.Idx → F .f32) (h) (k : Vec F S1x128x2048 .f32 → Prg F) (Q : PUnit → sProp 𝕄) :
    slotAt c s Y ⊢ iprop((∀ f : CBuf F, ⌜(slotM s).view.read (Elt F) f = Y⌝ -∗ slotAt c s Y -∗ wpC c (k ((cM.access (rC s)).read (Elt F) f)) Q)
      -∗ wpC c (.op (.load cM (rC s).toLoadRect h) k) Q) := by
  unfold slotAt
  iintro ⟨%f, %hf, Hs⟩ Hk
  iapply (wp_load_rect Variants.none (c : Thread nD τ) none Set.univ (m := cM) (r := rC s) (S := (slotM s).view.set) (slot_set s).subset) $$ [Hs]
  · iexact Hs
  iintro Hs
  iapply Hk $$ %f %hf [Hs]
  iexists f
  isplitr; · ipureintro; exact hf
  iexact Hs

/-- a store of a matrix makes it hold that. -/
theorem store_slot (c : Dev nD) (s : Fin 2) (Y Z : S128x2048.Idx → F .f32) (h h') (k : PUnit → Prg F) (Q : PUnit → sProp 𝕄) :
    slotAt c s Y ⊢ iprop((slotAt c s Z -∗ wpC c (k ⟨⟩) Q)
      -∗ wpC c (.op (.store cM (rC s) (shapeCast S1x128x2048 Z shapeCasts_S128x2048_S1x128x2048) Finset.univ h h') k) Q) := by
  unfold slotAt
  iintro ⟨%f, %hf, Hs⟩ Hk
  iapply (wp_store Variants.none (c : Thread nD τ) none Set.univ (m := cM) (r := rC s) (Mk := Finset.univ) (S := (slotM s).view.set) (slot_set s).subset) $$ [Hs]
  · iexact Hs
  iintro Hs
  iapply Hk
  iexists _
  isplitr
  · ipureintro; exact slot_store s f Z
  iexact Hs

/-! ## The parts of a hop -/

/-- Adding block `b` of the result to a slot. -/
theorem wp_addInto (c : Dev nD) (s : Fin 2) (b : Fin 32) (o : Fin 2 → ℕ) (h) (ho : o = ![128 * b.val, 0]) (Y : S128x2048.Idx → F .f32)
    (f : S4096x2048.Idx → F .f32) (k : FVec F S128x2048 .f32 → Prg F) (Q : PUnit → sProp 𝕄) :
    iprop(slotAt c s Y ∗ oAt c f) ⊢ iprop(((slotAt c s (addf (s := S128x2048) Y (rows b f)) ∗ oAt c f) -∗ wpC c (k (addf (s := S128x2048) Y (rows b f))) Q)
      -∗ wpC c (addInto s o h k) Q) := by
  unfold addInto
  iintro ⟨Hs, Ho⟩ Hk
  iapply (load_slot c s Y) $$ Hs
  iintro %g %hg Hs
  iapply (load_o c (rRow o h) _ f) $$ Ho
  iintro Ho
  iapply (load_slot c s Y) $$ Hs
  iintro %g' %hg' Hs
  rw [accum_eq s g Y hg, show (fun i => f ((rRow o h).emb i)) = rows b f from funext fun i => by rw [rRow_emb b o h ho]; rfl]
  iapply (store_slot c s Y) $$ Hs
  iintro Hs
  iapply Hk
  isplitl [Hs]; · iexact Hs
  iexact Ho

/-- Storing block `b` of `G` into the result. -/
theorem wp_putRows (c : Dev nD) (n : ℕ) (b : Fin 32) (hb : (c.val + 33 - b.val) % 32 = n) (o : Fin 2 → ℕ) (h) (ho : o = ![128 * b.val, 0])
    (G : S4096x2048.Idx → F .f32) (w : FVec F S128x2048 .f32) (hw : ∀ i, w i = G (rowIx b i)) (f : S4096x2048.Idx → F .f32) (hf : Round c n G f)
    (k : Prg F) (Q : PUnit → sProp 𝕄) :
    oAt c f ⊢ iprop((∀ f', ⌜Round c (n + 1) G f'⌝ -∗ oAt c f' -∗ wpC c k Q) -∗ wpC c (putRows o h w k) Q) := by
  unfold putRows
  iintro Ho Hk
  iapply (load_o c (rRow o h) _ f) $$ Ho
  iintro Ho
  iapply (store_o c (rRow o h) w _ _ f) $$ Ho
  iintro Ho
  iapply Hk $$ %_ %(hf.step b hb o h ho w hw) Ho

/-- Copying a slot that holds block `b` of `G` into the result. -/
theorem wp_copyOut (c : Dev nD) (s : Fin 2) (n : ℕ) (b : Fin 32) (hb : (c.val + 33 - b.val) % 32 = n) (o : Fin 2 → ℕ) (h) (ho : o = ![128 * b.val, 0])
    (G : S4096x2048.Idx → F .f32) (Y : S128x2048.Idx → F .f32) (hY : ∀ i, Y i = G (rowIx b i)) (f : S4096x2048.Idx → F .f32) (hf : Round c n G f)
    (k : Prg F) (Q : PUnit → sProp 𝕄) :
    iprop(slotAt c s Y ∗ oAt c f) ⊢ iprop((∀ f', ⌜Round c (n + 1) G f'⌝ -∗ slotAt c s Y -∗ oAt c f' -∗ wpC c k Q) -∗ wpC c (copyOut s o h k) Q) := by
  unfold copyOut
  iintro ⟨Hs, Ho⟩ Hk
  iapply (load_slot c s Y) $$ Hs
  iintro %g %hg Hs
  rw [slot_load, hg]
  iapply (wp_putRows c n b hb o h ho G Y hY f hf) $$ Ho
  iintro %f' %hf' Ho
  iapply Hk $$ %f' %hf' Hs Ho

/-- Loading the device's own rows into slot 0. -/
theorem wp_fill (c : Dev nD) (Y : S128x2048.Idx → F .f32) (f : S4096x2048.Idx → F .f32) (k : Prg F) (Q : PUnit → sProp 𝕄) :
    iprop(slotAt c 0 Y ∗ oAt c f) ⊢ iprop(((slotAt c 0 (rows c f) ∗ oAt c f) -∗ wpC c k Q) -∗ wpC c (fill c k) Q) := by
  unfold fill
  iintro ⟨Hs, Ho⟩ Hk
  iapply (load_o c (rRow (k0_off1 c) (k0_off1_inb c)) _ f) $$ Ho
  iintro Ho
  iapply (load_slot c 0 Y) $$ Hs
  iintro %g %hg Hs
  rw [show (fun i => f ((rRow (k0_off1 c) (k0_off1_inb c)).emb i)) = rows c f from funext fun i => by
    rw [rRow_emb c _ _ (Gen.k0_off1_eq c)]; rfl,
    show shapeCast S128x2048 (rows c f : Vec F S128x2048 .f32) shapeCasts_S128x2048_S128x2048 = rows c f from shapeCast_self _ _]
  iapply (store_slot c 0 Y) $$ Hs
  iintro Hs
  iapply Hk
  isplitl [Hs]; · iexact Hs
  iexact Ho

/-! ## The loops over row blocks -/

/-- The product: the result's buffer comes to hold the device's partial product. -/
theorem wp_mm (A : Dev nD → S4096x128.Idx → F .bf16) (B : Dev nD → S128x2048.Idx → F .bf16) (c : Dev nD) (k : Prg F) (Q : PUnit → sProp 𝕄) :
    ∀ n ≤ 8, ∀ f, Upto (512 * (8 - n)) (part A B c) f → iprop(aAt c (A c) ∗ oAt c f)
      ⊢ iprop(((aAt c (A c) ∗ oAt c (part A B c)) -∗ wpC c k Q) -∗ wpC c (mmLoop (B c) n k) Q)
  | 0, _, f, hf => by
    rw [hf.all]
    unfold mmLoop
    iintro H Hk
    iapply Hk $$ H
  | n + 1, hn, f, hf => by
    unfold mmLoop
    iintro ⟨Ha, Ho⟩ Hk
    iapply (load_a c (rA n) _ (A c)) $$ Ha
    iintro Ha
    iapply (load_o c (rO n) _ f) $$ Ho
    iintro Ho
    iapply (store_o c (rO n) _ _ _ f) $$ Ho
    iintro Ho
    iapply (wp_mm A B c k Q n (by omega) _
      (Upto.step (by omega) (X := fun n => mmBlock (B c) fun i => A c ((rA n).emb i)) (by rw [show 7 - n = 8 - (n + 1) by omega]; exact hf))) $$ [Ha Ho]
    · isplitl [Ha]; · iexact Ha
      iexact Ho
    iexact Hk

/-- The maximum of `G`, of its last `n` row blocks and `m`. -/
theorem wp_max (c : Dev nD) (G : S4096x2048.Idx → F .f32) (k : F .f32 → Prg F) (Q : PUnit → sProp 𝕄) :
    ∀ n m, oAt c G ⊢ iprop((oAt c G -∗ wpC c (k (maxFrom G n m)) Q) -∗ wpC c (maxLoop n m k) Q)
  | 0, m => by
    unfold maxLoop maxFrom
    iintro H Hk
    iapply Hk $$ H
  | n + 1, m => by
    unfold maxLoop maxFrom
    iintro Ho Hk
    iapply (load_o c (rO n) _ G) $$ Ho
    iintro Ho
    iapply (wp_max c G k Q n _) $$ Ho
    iexact Hk

/-- The quantisation: from `G`, the result's buffer comes to hold `G` quantised. -/
theorem wp_quant (c : Dev nD) (s : F .f32) (G : S4096x2048.Idx → F .f32) (k : Prg F) (Q : PUnit → sProp 𝕄) :
    ∀ n ≤ 8, ∀ f, Upto (512 * (8 - n)) (quant s G) f → From (512 * (8 - n)) G f → oAt c f
      ⊢ iprop((oAt c (quant s G) -∗ wpC c k Q) -∗ wpC c (quantLoop s n k) Q)
  | 0, _, f, hf, _ => by
    rw [hf.all]
    unfold quantLoop
    iintro H Hk
    iapply Hk $$ H
  | n + 1, hn, f, hf, hg => by
    rw [show 8 - (n + 1) = 7 - n by omega] at hf hg
    unfold quantLoop
    iintro Ho Hk
    iapply (load_o c (rO n) _ f) $$ Ho
    iintro Ho
    iapply (load_o c (rO n) _ f) $$ Ho
    iintro Ho
    rw [show (fun i => f ((rO n).emb i)) = fun i => G ((rO n).emb i) from hg.read]
    iapply (store_o c (rO n) _ _ _ f) $$ Ho
    iintro Ho
    iapply (show oAt c ((oM.access (rO n)).write (Elt F) f (quantBlk s fun i : (rO n).shape.Idx => G ((rO n).emb i)) Finset.univ)
        ⊢ iprop((oAt c (quant s G) -∗ wpC c k Q) -∗ wpC c (quantLoop s n k) Q) from wp_quant c s G k Q n (by omega) _ (Upto.step (by omega) (X := fun n => quantBlk s fun i => G ((rO n).emb i)) hf) (hg.step (by omega))) $$ Ho
    iexact Hk

/-! ## The barriers -/

variable (X : ℕ → Dev nD → S128x2048.Idx → F .f32)

/-- What the two barriers use up: the rights to pay both neighbours' duties and the claim to both neighbours' signals. -/
def barRes (c : Dev nD) : sProp 𝕄 :=
  iprop(dutyTok ER (bCell (prv c)) 0 true ∗ dutyTok ER (bCell (nxt c)) 0 false ∗ cred (tallyAt (bCell c) 0 2))
def endRes (c : Dev nD) : sProp 𝕄 :=
  iprop(dutyTok ER (dCell (prv c)) 0 true ∗ dutyTok ER (dCell (nxt c)) 0 false ∗ cred (tallyAt (dCell c) 0 2))

/-- The opening barrier: slot 1 goes to the device before, the next device's comes in exchange. -/
theorem wp_open (c : Dev nD) (Y : S128x2048.Idx → F .f32) (k : Prg F) (Q : PUnit → sProp 𝕄) :
    iprop((records X ∗ levAts L lv) ∗ slotAt c 1 Y ∗ barRes c ∗ atPos ER (bCell c) 0 ∅ 0 ∗ owing c (O₀ c))
      ⊢ iprop(((atPos ER (bCell c) 1 ∅ 0 ∗ slotAny (nxt c) 1 ∗ owing c (owed c 0 0)) -∗ wpC c k Q) -∗ wpC c (barrier c barS k) Q) := by
  unfold barrier wpC barRes owing
  rw [left_eq, right_eq]
  iintro ⟨⟨#HR, #Hlev⟩, Hslot, ⟨HtP, HtN, Hcr⟩, Ha, ⟨%W, HO⟩⟩ Hk
  ihave HIp := (kept_at X (prv c, 0)) $$ HR
  unfold kept; icases HIp with ⟨%κp, #HIp⟩
  ihave HIn := (kept_at X (nxt c, 0)) $$ HR
  unfold kept; icases HIn with ⟨%κn, #HIn⟩
  ihave HIc := (kept_at X (c, 0)) $$ HR
  unfold kept; icases HIc with ⟨%κc, #HIc⟩
  ihave #HrP := (start_at X (prv c, 0)) $$ HR
  ihave #HrN := (start_at X (nxt c, 0)) $$ HR
  iapply (Rounds.wp_signal Variants.none ER (sched X) (c : Thread nD τ) none (dst := (prv c : Thread nD τ)) (κ := κp)
      (r := 0) (d := true) (by rw [duties_b X (prv c)]; decide) (show 1 = (1#32).toInt.toNat by decide) 0 (owed c 0 0 + tallyAt (bCell (nxt c)) 0 1) rfl) $$ [HO HtP Hslot]
  · isplitr; · iexact HIp
    isplitl [HO]; · iexact HO
    isplitl [HtP]; · iexact HtP
    isplitl [Hslot]
    · rw [payload_b_true]; unfold barPay slotAny; rw [nxt_prv]; iexists Y; iexact Hslot
    · iexact HrP
  iintro HO
  iapply (Rounds.wp_signal Variants.none ER (sched X) (c : Thread nD τ) none (dst := (nxt c : Thread nD τ)) (κ := κn)
      (r := 0) (d := false) (by rw [duties_b X (nxt c)]; decide) (show 1 = (1#32).toInt.toNat by decide) 0 (owed c 0 0) rfl) $$ [HO HtN]
  · isplitr; · iexact HIn
    isplitl [HO]; · iexact HO
    isplitl [HtN]; · iexact HtN
    isplitr
    · rw [payload_b_false]; iempintro
    · iexact HrN
  iintro HO
  iapply (Rounds.wp_wait_rest_token Variants.none ER (sched X) (c : Thread nD τ) none (κ := κc)
      (wpE_semWait_eq Variants.none (c : Thread nD τ) none Set.univ) (Set.mem_univ _) 0 (O := owed c 0 0) (W := W) (R := 0) (m := 0) (T := ∅)
      (by rw [expect_b X c]; decide)) $$ [Hcr HO Ha]
  · isplitr; · iexact HIc
    isplitl [Hcr]; · iexact Hcr
    isplitl [HO]; · iexact HO
    isplitr
    · iapply (mayWait_owed c (.reg barS) 0 0 0 (by omega) (by rw [lv_b]; omega) (by rw [lv_b]; omega) (by rw [lv_b]; omega)); iexact Hlev
    iexact Ha
  iintro ⟨HO, Ha, -, Hpay⟩
  ihave Hp := (Entails.of_eq (rest_b X c)) $$ Hpay
  unfold barPay
  icases Hp with ⟨-, Hslot⟩
  iapply Hk
  isplitl [Ha]; · iexact Ha
  isplitl [Hslot]; · iexact Hslot
  iexists _; iexact HO

/-- The closing barrier: after it nothing is owed. -/
theorem wp_close (c : Dev nD) (i j : ℕ) (hi : 61 ≤ i) (hj : 62 ≤ j) (k : Prg F) (Q : PUnit → sProp 𝕄) :
    iprop((records X ∗ levAts L lv) ∗ endRes c ∗ atPos ER (dCell c) 0 ∅ 0 ∗ owing c (owed c i j))
      ⊢ iprop(((atPos ER (dCell c) 1 ∅ 0 ∗ owing c 0) -∗ wpC c k Q) -∗ wpC c (barrier c endS k) Q) := by
  unfold barrier wpC endRes owing
  rw [left_eq, right_eq, owed_end c i j hi hj]
  iintro ⟨⟨#HR, #Hlev⟩, ⟨HtP, HtN, Hcr⟩, Ha, ⟨%W, HO⟩⟩ Hk
  ihave HIp := (kept_at X (prv c, 6)) $$ HR
  unfold kept; icases HIp with ⟨%κp, #HIp⟩
  ihave HIn := (kept_at X (nxt c, 6)) $$ HR
  unfold kept; icases HIn with ⟨%κn, #HIn⟩
  ihave HIc := (kept_at X (c, 6)) $$ HR
  unfold kept; icases HIc with ⟨%κc, #HIc⟩
  ihave #HrP := (start_at X (prv c, 6)) $$ HR
  ihave #HrN := (start_at X (nxt c, 6)) $$ HR
  iapply (Rounds.wp_signal Variants.none ER (sched X) (c : Thread nD τ) none (dst := (prv c : Thread nD τ)) (κ := κp)
      (r := 0) (d := true) (by rw [duties_d X (prv c)]; decide) (show 1 = (1#32).toInt.toNat by decide) 0 (tallyAt (dCell (nxt c)) 0 1) rfl) $$ [HO HtP]
  · isplitr; · iexact HIp
    isplitl [HO]; · iexact HO
    isplitl [HtP]; · iexact HtP
    isplitr
    · rw [payload_d]; iempintro
    · iexact HrP
  iintro HO
  iapply (Rounds.wp_signal Variants.none ER (sched X) (c : Thread nD τ) none (dst := (nxt c : Thread nD τ)) (κ := κn)
      (r := 0) (d := false) (by rw [duties_d X (nxt c)]; decide) (show 1 = (1#32).toInt.toNat by decide) 0 0 (zero_add _).symm) $$ [HO HtN]
  · isplitr; · iexact HIn
    isplitl [HO]; · iexact HO
    isplitl [HtN]; · iexact HtN
    isplitr
    · rw [payload_d]; iempintro
    · iexact HrN
  iintro HO
  iapply (Rounds.wp_wait_rest_token Variants.none ER (sched X) (c : Thread nD τ) none (κ := κc)
      (wpE_semWait_eq Variants.none (c : Thread nD τ) none Set.univ) (Set.mem_univ _) 0 (O := 0) (W := W) (R := 0) (m := 0) (T := ∅)
      (by rw [expect_d X c]; decide)) $$ [Hcr HO Ha]
  · isplitr; · iexact HIc
    isplitl [Hcr]; · iexact Hcr
    isplitl [HO]; · iexact HO
    isplitr
    · rw [MayWait_zero]; iempintro
    iexact Ha
  iintro ⟨HO, Ha, -, -⟩
  iapply Hk
  isplitl [Ha]; · iexact Ha
  iexists _; iexact HO

end Cert.RingProof

end
-- ==== Proof.Loop.lean ====
/-
  The hops one after the other, and the whole body: from the state a device starts in (`startSt`) to the one it ends in (`endSt`).
-/
module

public import proofs.«01_k».proof.Proof.Body

@[expose] public section

noncomputable section

namespace Cert.RingProof

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (A : Dev nD → S4096x128.Idx → F .bf16) (B : Dev nD → S128x2048.Idx → F .bf16)

/-- What every step of the ring may use: the cells' records, and the levels. -/
def shared : sProp 𝕄 := iprop(records (val A B) ∗ levAts L lv)
instance shared_persistent : BI.Persistent (shared A B) := by unfold shared; infer_instance

/-! ## One hop -/

/-- Device `c` before hop `j`: its sending slot holds `val j c`, it holds the next device's slot that the hop writes, and what the rest
    of the hops use up. -/
def hopSt (c : Dev nD) (j : ℕ) : sProp 𝕄 :=
  iprop(hopPos c j ∗ slotAt c (par j) (val A B j c) ∗ slotAny (nxt c) (par (j + 1))
    ∗ bigSep (Finset.Ico j 62) (hopRes c) ∗ bigSep (Finset.Ico j 61) (crdRes c) ∗ owing c (owed c j j))

/-- After hop `j`'s transfer, its receiving slot holding `Z`. -/
def midSt (c : Dev nD) (j : ℕ) (Z : S128x2048.Idx → F .f32) : sProp 𝕄 :=
  iprop(slotAt c (par (j + 1)) Z ∗ hopMid c j ∗ slotAt c (par j) (val A B j c)
    ∗ bigSep (Finset.Ico (j + 1) 62) (hopRes c) ∗ bigSep (Finset.Ico j 61) (crdRes c) ∗ owing c (owed c j (j + 1)))

theorem peel (i n : ℕ) (h : i < n) (Φ : ℕ → sProp 𝕄) : bigSep (Finset.Ico i n) Φ ⊢ iprop(Φ i ∗ bigSep (Finset.Ico (i + 1) n) Φ) := by
  rw [Ico_peel h, bigSep_insert (Ico_peel_notin i n)]
  exact .rfl

/-- The transfer: the receiving slot comes to hold what the device before sent. -/
theorem hop_xfer (c : Dev nD) (j : ℕ) (hj : j < 62) (k : Prg F) (Q : PUnit → sProp 𝕄) :
    iprop(shared A B ∗ hopSt A B c j) ⊢ iprop((midSt A B c j (val A B j (prv c)) -∗ wpC c k Q) -∗ wpC c (xfer c j k) Q) := by
  unfold hopSt shared
  iintro ⟨#Hsh, Hpos, Hs, Hn, Hh, Hc, HO⟩ Hk
  ihave Hh := (peel j 62 hj (hopRes c)) $$ Hh
  icases Hh with ⟨Hj, Hh⟩
  iapply (wp_xfer (val A B) c j hj k Q) $$ [Hpos Hs Hn Hj HO]
  · isplitr; · iexact Hsh
    isplitl [Hpos]; · iexact Hpos
    isplitl [Hs]; · iexact Hs
    isplitl [Hn]; · iexact Hn
    isplitl [Hj]; · iexact Hj
    iexact HO
  iintro ⟨Hmid, Hs, Hr, HO⟩
  iapply Hk
  unfold midSt
  isplitl [Hr]; · iexact Hr
  isplitl [Hmid]; · iexact Hmid
  isplitl [Hs]; · iexact Hs
  isplitl [Hh]; · iexact Hh
  isplitl [Hc]; · iexact Hc
  iexact HO

/-- The exchange of credits: with the next rows in the receiving slot, the device stands before the next hop. -/
theorem hop_sync (c : Dev nD) (j : ℕ) (hj : j < 61) (k : Prg F) (Q : PUnit → sProp 𝕄) :
    iprop(shared A B ∗ midSt A B c j (val A B (j + 1) c)) ⊢ iprop((hopSt A B c (j + 1) -∗ wpC c k Q) -∗ wpC c (sync c k) Q) := by
  unfold midSt shared
  iintro ⟨#Hsh, Hr, Hmid, Hs, Hh, Hc, HO⟩ Hk
  ihave Hc := (peel j 61 hj (crdRes c)) $$ Hc
  icases Hc with ⟨Hj, Hc⟩
  iapply (wp_sync (val A B) c j hj (val A B j c) k Q) $$ [Hmid Hs Hj HO]
  · isplitr; · iexact Hsh
    isplitl [Hmid]; · iexact Hmid
    isplitl [Hs]; · iexact Hs
    isplitl [Hj]; · iexact Hj
    iexact HO
  iintro ⟨Hpos, Hn, HO⟩
  iapply Hk
  unfold hopSt
  isplitl [Hpos]; · iexact Hpos
  isplitl [Hr]; · iexact Hr
  isplitl [Hn]; · iexact Hn
  isplitl [Hh]; · iexact Hh
  isplitl [Hc]; · iexact Hc
  iexact HO

/-- The rows of the device's partial product, added to what came, are the next rows; -/
theorem val_add (c : Dev nD) (j : ℕ) (hj : j < 31) :
    addf (s := S128x2048) (val A B j (prv c)) (rows (redB c j) (part A B c)) = val A B (j + 1) c := (if_pos hj).symm
/-- in the gathering what came is. -/
theorem val_pass (c : Dev nD) (j : ℕ) (hj : 31 ≤ j) : val A B j (prv c) = val A B (j + 1) c := (if_neg (by omega)).symm

/-- Adding into the receiving slot, in the reduction. -/
theorem hop_add (c : Dev nD) (j : ℕ) (hj : j < 31) (k : FVec F S128x2048 .f32 → Prg F) (Q : PUnit → sProp 𝕄) :
    iprop(midSt A B c j (val A B j (prv c)) ∗ oAt c (part A B c))
      ⊢ iprop(((midSt A B c j (val A B (j + 1) c) ∗ oAt c (part A B c)) -∗ wpC c (k (val A B (j + 1) c)) Q)
        -∗ wpC c (addInto (par (j + 1)) (offR c j) (offR_inb c j hj) k) Q) := by
  unfold midSt
  iintro ⟨⟨Hr, Hrest⟩, Ho⟩ Hk
  iapply (wp_addInto c (par (j + 1)) (redB c j) (offR c j) (offR_inb c j hj) (offR_eq c j hj) (val A B j (prv c)) (part A B c) k Q) $$ [Hr Ho]
  · isplitl [Hr]; · iexact Hr
    iexact Ho
  rw [val_add A B c j hj]
  iintro ⟨Hr, Ho⟩
  iapply Hk
  isplitl [Hr Hrest]
  · isplitl [Hr]; · iexact Hr
    iexact Hrest
  iexact Ho

/-- Copying the receiving slot out, in the gathering. -/
theorem hop_copy (c : Dev nD) (g : ℕ) (hg : g < 31) (f : S4096x2048.Idx → F .f32) (hf : Round c (g + 1) (gath A B) f) (k : Prg F) (Q : PUnit → sProp 𝕄) :
    iprop(midSt A B c (31 + g) (val A B (31 + g) (prv c)) ∗ oAt c f)
      ⊢ iprop((∀ f', ⌜Round c (g + 2) (gath A B) f'⌝ -∗ midSt A B c (31 + g) (val A B (31 + g + 1) c) -∗ oAt c f' -∗ wpC c k Q)
        -∗ wpC c (copyOut (par (31 + g + 1)) (offG c g) (offG_inb c g hg) k) Q) := by
  rw [val_pass A B c (31 + g) (by omega)]
  unfold midSt
  iintro ⟨⟨Hr, Hrest⟩, Ho⟩ Hk
  iapply (wp_copyOut c (par (31 + g + 1)) (g + 1) (gatB c g) (gatB_round c g hg) (offG c g) (offG_inb c g hg) (offG_eq c g hg)
      (gath A B) (val A B (31 + g + 1) c) (val_gat A B c g hg) f hf k Q) $$ [Hr Ho]
  · isplitl [Hr]; · iexact Hr
    iexact Ho
  iintro %f' %hf' Hr Ho
  iapply Hk $$ %f' %hf' [Hr Hrest] Ho
  isplitl [Hr]; · iexact Hr
  iexact Hrest

/-! ## All hops -/

/-- The last `n` of the first 30 hops of the reduction. -/
theorem wp_red (c : Dev nD) (k : Prg F) (Q : PUnit → sProp 𝕄) :
    ∀ n ≤ 30, iprop(shared A B ∗ hopSt A B c (30 - n) ∗ oAt c (part A B c))
      ⊢ iprop(((hopSt A B c 30 ∗ oAt c (part A B c)) -∗ wpC c k Q) -∗ wpC c (redLoop c n k) Q)
  | 0, _ => by
    unfold redLoop
    iintro ⟨-, H⟩ Hk
    iapply Hk $$ H
  | n + 1, hn => by
    have ih := wp_red c k Q n (by omega)
    rw [show 30 - n = 29 - n + 1 by omega] at ih
    rw [show 30 - (n + 1) = 29 - n by omega]
    unfold redLoop
    iintro ⟨#Hsh, H, Ho⟩ Hk
    iapply (hop_xfer A B c (29 - n) (by omega)) $$ [H]
    · isplitr; · iexact Hsh
      iexact H
    iintro H
    iapply (hop_add A B c (29 - n) (by omega)) $$ [H Ho]
    · isplitl [H]; · iexact H
      iexact Ho
    iintro ⟨H, Ho⟩
    iapply (hop_sync A B c (29 - n) (by omega)) $$ [H]
    · isplitr; · iexact Hsh
      iexact H
    iintro H
    iapply ih $$ [H Ho]
    · isplitr; · iexact Hsh
      isplitl [H]; · iexact H
      iexact Ho
    iexact Hk

/-- The last `n` of the first 30 hops of the gathering. -/
theorem wp_gat (c : Dev nD) (k : Prg F) (Q : PUnit → sProp 𝕄) :
    ∀ n ≤ 30, ∀ f, Round c (31 - n) (gath A B) f → iprop(shared A B ∗ hopSt A B c (61 - n) ∗ oAt c f)
      ⊢ iprop((∀ f', ⌜Round c 31 (gath A B) f'⌝ -∗ hopSt A B c 61 -∗ oAt c f' -∗ wpC c k Q) -∗ wpC c (gatLoop c n k) Q)
  | 0, _, f, hf => by
    unfold gatLoop
    iintro ⟨-, H, Ho⟩ Hk
    iapply Hk $$ %f %hf H Ho
  | n + 1, hn, f, hf => by
    have ih := wp_gat c k Q n (by omega)
    rw [show 61 - n = 31 + (29 - n) + 1 by omega, show 31 - n = 29 - n + 2 by omega] at ih
    rw [show 31 - (n + 1) = 29 - n + 1 by omega] at hf
    rw [show 61 - (n + 1) = 31 + (29 - n) by omega]
    unfold gatLoop
    rw [show 60 - n = 31 + (29 - n) by omega]
    iintro ⟨#Hsh, H, Ho⟩ Hk
    iapply (hop_xfer A B c (31 + (29 - n)) (by omega)) $$ [H]
    · isplitr; · iexact Hsh
      iexact H
    iintro H
    iapply (hop_copy A B c (29 - n) (by omega) f hf) $$ [H Ho]
    · isplitl [H]; · iexact H
      iexact Ho
    iintro %f' %hf' H Ho
    iapply (hop_sync A B c (31 + (29 - n)) (by omega)) $$ [H]
    · isplitr; · iexact Hsh
      iexact H
    iintro H
    iapply (ih f' hf') $$ [H Ho]
    · isplitr; · iexact Hsh
      isplitl [H]; · iexact H
      iexact Ho
    iexact Hk

/-- All hops: the result's buffer goes from the device's partial product to the summed product. -/
theorem wp_hops (c : Dev nD) (k : Prg F) (Q : PUnit → sProp 𝕄) :
    iprop(shared A B ∗ hopSt A B c 0 ∗ oAt c (part A B c))
      ⊢ iprop(((midSt A B c 61 (val A B 62 c) ∗ oAt c (gath A B)) -∗ wpC c k Q) -∗ wpC c (hops c k) Q) := by
  unfold hops
  iintro ⟨#Hsh, H, Ho⟩ Hk
  iapply (wp_red A B c _ Q 30 le_rfl) $$ [H Ho]
  · isplitr; · iexact Hsh
    isplitl [H]; · iexact H
    iexact Ho
  iintro ⟨H, Ho⟩
  iapply (hop_xfer A B c 30 (by decide)) $$ [H]
  · isplitr; · iexact Hsh
    iexact H
  iintro H
  iapply (hop_add A B c 30 (by decide)) $$ [H Ho]
  · isplitl [H]; · iexact H
    iexact Ho
  iintro ⟨H, Ho⟩
  iapply (wp_putRows c 0 (redB c 30) (redB_round c) (offR c 30) (offR_inb c 30 (by decide)) (offR_eq c 30 (by decide)) (gath A B)
      (val A B 31 c) (val_red A B c) (part A B c) (Round.zero _ _ _)) $$ Ho
  iintro %f %hf Ho
  iapply (hop_sync A B c 30 (by decide)) $$ [H]
  · isplitr; · iexact Hsh
    iexact H
  iintro H
  iapply (wp_gat A B c _ Q 30 le_rfl f hf) $$ [H Ho]
  · isplitr; · iexact Hsh
    isplitl [H]; · iexact H
    iexact Ho
  iintro %f %hf H Ho
  iapply (hop_xfer A B c 61 (by decide)) $$ [H]
  · isplitr; · iexact Hsh
    iexact H
  iintro H
  iapply (hop_copy A B c 30 (by decide) f hf) $$ [H Ho]
  · isplitl [H]; · iexact H
    iexact Ho
  iintro %f %hf H Ho
  rw [hf.all]
  iapply Hk
  isplitl [H]; · iexact H
  iexact Ho

/-! ## The whole body -/

/-- Where the seven cells of a device start. -/
def cells0 (c : Dev nD) : sProp 𝕄 :=
  iprop(atPos ER (bCell c) 0 ∅ 0 ∗ atPos ER (sCell c 0) 0 ∅ 0 ∗ atPos ER (sCell c 1) 0 ∅ 0 ∗ atPos ER (vCell c 0) 0 ∅ 0
    ∗ atPos ER (vCell c 1) 0 ∅ 0 ∗ atPos ER (cCell c) 0 ∅ 0 ∗ atPos ER (dCell c) 0 ∅ 0)
/-- In the end they all count zero. -/
def cells1 (c : Dev nD) : sProp 𝕄 :=
  iprop(semVal (bCell c) 0 ∗ semVal (sCell c 0) 0 ∗ semVal (sCell c 1) 0 ∗ semVal (vCell c 0) 0
    ∗ semVal (vCell c 1) 0 ∗ semVal (cCell c) 0 ∗ semVal (dCell c) 0)

/-- What the body of device `c` uses up of the ring: its cells' starts, its tokens and its claims. -/
def ringRes (c : Dev nD) : sProp 𝕄 :=
  iprop(cells0 c ∗ barRes c ∗ endRes c ∗ bigSep (Finset.Ico 0 62) (hopRes c) ∗ bigSep (Finset.Ico 0 61) (crdRes c))

theorem reach_s (c : Dev nD) (s : Fin 2) : shared A B ⊢ (reached ER (sCell c s) 0 : sProp 𝕄) := by
  unfold shared
  iintro ⟨H, -⟩
  rcases s with ⟨_ | _ | s, h⟩
  · iapply (show records (val A B) ⊢ (reached ER (sCell c ⟨0, h⟩) 0 : sProp 𝕄) from start_at (val A B) (c, 1)); iexact H
  · iapply (show records (val A B) ⊢ (reached ER (sCell c ⟨1, h⟩) 0 : sProp 𝕄) from start_at (val A B) (c, 2)); iexact H
  · omega
theorem reach_v (c : Dev nD) (s : Fin 2) : shared A B ⊢ (reached ER (vCell c s) 0 : sProp 𝕄) := by
  unfold shared
  iintro ⟨H, -⟩
  rcases s with ⟨_ | _ | s, h⟩
  · iapply (show records (val A B) ⊢ (reached ER (vCell c ⟨0, h⟩) 0 : sProp 𝕄) from start_at (val A B) (c, 3)); iexact H
  · iapply (show records (val A B) ⊢ (reached ER (vCell c ⟨1, h⟩) 0 : sProp 𝕄) from start_at (val A B) (c, 4)); iexact H
  · omega
theorem reach_c (c : Dev nD) : shared A B ⊢ (reached ER (cCell c) 0 : sProp 𝕄) := by
  unfold shared
  iintro ⟨H, -⟩
  iapply (show records (val A B) ⊢ (reached ER (cCell c) 0 : sProp 𝕄) from start_at (val A B) (c, 5)); iexact H

/-- A device whose cells are at their starts stands before hop 0. -/
theorem hopPos_zero (c : Dev nD) :
    iprop(shared A B ∗ atPos ER (sCell c 0) 0 ∅ 0 ∗ atPos ER (sCell c 1) 0 ∅ 0 ∗ atPos ER (vCell c 0) 0 ∅ 0
      ∗ atPos ER (vCell c 1) 0 ∅ 0 ∗ atPos ER (cCell c) 0 ∅ 0) ⊢ hopPos (F := F) c 0 := by
  unfold hopPos
  rw [show par (0 + 1) = 1 from rfl, show par 0 = 0 from rfl, show 0 / 2 = 0 from rfl]
  iintro ⟨#Hsh, H0, H1, H2, H3, H4⟩
  isplitr; · iapply (reach_v A B (nxt c) 1); iexact Hsh
  isplitl [H0]
  · isplitl [H0]; · iexact H0
    iapply (reach_s A B c 0); iexact Hsh
  isplitl [H1]
  · isplitl [H1]; · iexact H1
    iapply (reach_s A B c 1); iexact Hsh
  isplitl [H3]; · iexact H3
  isplitl [H2]
  · isplitl [H2]; · iexact H2
    iapply (reach_v A B c 0); iexact Hsh
  isplitl [H4]; · iexact H4
  iapply (reach_c A B c); iexact Hsh

/-- A cell past its last round counts zero. -/
theorem close_at (c : Dev nD) (sm : SemLoc sig) (R : ℕ) (hk : records (val A B) ⊢ kept (val A B) ((c : Thread nD τ), sm))
    (hR : ∀ r, R ≤ r → (sched (val A B)).duties ((c : Thread nD τ), sm) r = ∅) :
    iprop(shared A B ∗ atPos ER ((c : Thread nD τ), sm) R ∅ 0) ⊢ iprop(|={Set.univ}=> semVal ((c : Thread nD τ), sm) 0 : sProp 𝕄) := by
  unfold shared
  iintro ⟨⟨#HR, -⟩, Ha⟩
  ihave HI := hk $$ HR
  unfold kept; icases HI with ⟨%κ, #HI⟩
  iapply (Rounds.cell_close ER (sched (val A B)) (Set.mem_univ κ) (fun h => h) (R := R) hR)
  isplitr; · iexact HI
  iexact Ha

/-- The body of device `c`: from its operands, and the ring's resources, to the result. -/
theorem wp_body (c : Dev nD) (f : S4096x2048.Idx → F .f32) :
    iprop(shared A B ∗ ringRes c ∗ slotAny c 0 ∗ slotAny c 1 ∗ aAt c (A c) ∗ bAt c (B c) ∗ oAt c f ∗ owing c (O₀ c))
      ⊢ wpC c (bodyOf c) (fun _ => iprop(cells1 c ∗ slotAny c 0 ∗ slotAny c 1 ∗ aAt c (A c) ∗ bAt c (B c) ∗ oAt c (out A B) ∗ owing c 0)) := by
  unfold bodyOf ringRes cells0
  iintro ⟨#Hsh, ⟨⟨Hb, Hs0, Hs1, Hv0, Hv1, Hc, Hd⟩, Hbar, Hend, Hhop, Hcrd⟩, Hslot0, Hslot1, HA, HB, Ho, HO⟩
  unfold slotAny
  icases Hslot0 with ⟨%Y0, Hslot0⟩
  icases Hslot1 with ⟨%Y1, Hslot1⟩
  iapply (wp_open (val A B) c Y1) $$ [Hslot1 Hbar Hb HO]
  · isplitr; · unfold shared; iexact Hsh
    isplitl [Hslot1]; · iexact Hslot1
    isplitl [Hbar]; · iexact Hbar
    isplitl [Hb]; · iexact Hb
    iexact HO
  iintro ⟨Hb, Hn, HO⟩
  iapply (load_b c _ (B c)) $$ HB
  iintro HB
  iapply (wp_mm A B c _ _ 8 le_rfl f (fun y h => absurd h (Nat.not_lt_zero _))) $$ [HA Ho]
  · isplitl [HA]; · iexact HA
    iexact Ho
  iintro ⟨HA, Ho⟩
  iapply (wp_fill c Y0 (part A B c)) $$ [Hslot0 Ho]
  · isplitl [Hslot0]; · iexact Hslot0
    iexact Ho
  iintro ⟨Hslot0, Ho⟩
  iapply (wp_hops A B c) $$ [Hs0 Hs1 Hv0 Hv1 Hc Hslot0 Hn Hhop Hcrd HO Ho]
  · isplitr; · iexact Hsh
    isplitr [Ho]
    · unfold hopSt
      isplitl [Hs0 Hs1 Hv0 Hv1 Hc]
      · iapply (hopPos_zero A B c)
        isplitr; · iexact Hsh
        isplitl [Hs0]; · iexact Hs0
        isplitl [Hs1]; · iexact Hs1
        isplitl [Hv0]; · iexact Hv0
        isplitl [Hv1]; · iexact Hv1
        iexact Hc
      rw [show par (0 + 1) = 1 from rfl, show par 0 = 0 from rfl, show val A B 0 c = rows c (part A B c) from rfl]
      isplitl [Hslot0]; · iexact Hslot0
      isplitl [Hn]; · iexact Hn
      isplitl [Hhop]; · iexact Hhop
      isplitl [Hcrd]; · iexact Hcrd
      iexact HO
    iexact Ho
  unfold midSt hopMid
  rw [show par (61 + 1) = 0 from rfl, show par 61 = 1 from rfl, show 61 / 2 = 30 from rfl, show (61 + 1) / 2 = 31 from rfl]
  iintro ⟨⟨Hslot0, ⟨-, ⟨Hs1, -⟩, ⟨Hs0, -⟩, ⟨Hv0, -⟩, ⟨Hv1, -⟩, ⟨Hc, -⟩⟩, Hslot1, -, -, HO⟩, Ho⟩
  unfold epilogue
  iapply (wp_max c (gath A B)) $$ Ho
  iintro Ho
  iapply (wp_quant c _ (gath A B) _ _ 8 le_rfl (gath A B) (fun y h => absurd h (Nat.not_lt_zero _)) (fun y _ => rfl)) $$ Ho
  iintro Ho
  iapply (wp_close (val A B) c 61 62 le_rfl le_rfl) $$ [Hend Hd HO]
  · isplitr; · unfold shared; iexact Hsh
    isplitl [Hend]; · iexact Hend
    isplitl [Hd]; · iexact Hd
    iexact HO
  iintro ⟨Hd, HO⟩
  unfold wpC
  rw [wp_ret]
  imod (close_at A B c (.reg barS) 1 (kept_at (val A B) (c, 0)) (duties_b_end (val A B) c)) $$ [Hb] with Hb
  · isplitr; · iexact Hsh
    iexact Hb
  imod (close_at A B c (.dma (sS 0)) 31 (kept_s (val A B) c 0) (duties_dma_end (val A B) c _)) $$ [Hs0] with Hs0
  · isplitr; · iexact Hsh
    iexact Hs0
  imod (close_at A B c (.dma (sS 1)) 31 (kept_s (val A B) c 1) (duties_dma_end (val A B) c _)) $$ [Hs1] with Hs1
  · isplitr; · iexact Hsh
    iexact Hs1
  imod (close_at A B c (.dma (rS 0)) 31 (kept_v (val A B) c 0) (duties_dma_end (val A B) c _)) $$ [Hv0] with Hv0
  · isplitr; · iexact Hsh
    iexact Hv0
  imod (close_at A B c (.dma (rS 1)) 31 (kept_v (val A B) c 1) (duties_dma_end (val A B) c _)) $$ [Hv1] with Hv1
  · isplitr; · iexact Hsh
    iexact Hv1
  imod (close_at A B c (.reg crdS) 61 (kept_at (val A B) (c, 5)) (duties_c_end (val A B) c)) $$ [Hc] with Hc
  · isplitr; · iexact Hsh
    iexact Hc
  imod (close_at A B c (.reg endS) 1 (kept_at (val A B) (c, 6)) (duties_d_end (val A B) c)) $$ [Hd] with Hd
  · isplitr; · iexact Hsh
    iexact Hd
  imodintro
  isplitl [Hb Hs0 Hs1 Hv0 Hv1 Hc Hd]
  · unfold cells1
    isplitl [Hb]; · iexact Hb
    isplitl [Hs0]; · iexact Hs0
    isplitl [Hs1]; · iexact Hs1
    isplitl [Hv0]; · iexact Hv0
    isplitl [Hv1]; · iexact Hv1
    isplitl [Hc]; · iexact Hc
    iexact Hd
  isplitl [Hslot0]; · iexists _; iexact Hslot0
  isplitl [Hslot1]; · iexists _; iexact Hslot1
  isplitl [HA]; · iexact HA
  isplitl [HB]; · iexact HB
  isplitl [Ho]; · iexact Ho
  iexact HO

end Cert.RingProof

end
-- ==== Proof.Ghost.lean ====
/-
  What a launch of the ring starts from: the cells' records and the duty tokens as they are minted, cell by cell, how they are
  dealt to the devices that use them, and the claims that the devices' debts give one another (`glob`, `claims`). Besides, the ring
  buffer as its two slots.
-/
module

public import proofs.«01_k».proof.Proof.Loop

@[expose] public section

noncomputable section

namespace Cert.RingProof

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The ring buffer as two slots -/

/-- An element of the ring buffer lies in slot `s` if its first coordinate is `s`. -/
theorem mem_slot (s : Fin 2) (y : S2x128x2048.Idx) : y ∈ (cM.access (rC s)).set ↔ (y 0).val = s.val := by
  have e : (cM.access (rC s)).set = (rC s).set := View.set_slice_whole _ _
  rw [e, Rect.mem_set_unit]
  constructor
  · intro h
    have h0 := h 0
    have h1 : s.val ≤ (y 0).val := h0.1
    have h2 : (y 0).val < s.val + 1 := h0.2
    omega
  · intro h a
    fin_cases a
    · exact ⟨(show s.val ≤ (y 0).val by omega), (show (y 0).val < s.val + 1 by omega)⟩
    · exact ⟨Nat.zero_le _, (show (y 1).val < 0 + 128 by have := (y 1).isLt; exact lt_of_lt_of_eq this (Nat.zero_add _).symm)⟩
    · exact ⟨Nat.zero_le _, (show (y 2).val < 0 + 2048 by have := (y 2).isLt; exact lt_of_lt_of_eq this (Nat.zero_add _).symm)⟩

theorem slots_disjoint : Disjoint (cM.access (rC 0)).set (cM.access (rC 1)).set := by
  rw [Finset.disjoint_left]
  intro y h0 h1
  have e0 : (y 0).val = 0 := (mem_slot 0 y).mp h0
  have e1 : (y 0).val = 1 := (mem_slot 1 y).mp h1
  omega

theorem slots_cover : (cM.access (rC 0)).set ∪ (cM.access (rC 1)).set = Finset.univ := by
  refine Finset.eq_univ_of_forall fun y => ?_
  rw [Finset.mem_union]
  have h : (y 0).val < 2 := (y 0).isLt
  rcases (show (y 0).val = 0 ∨ (y 0).val = 1 by omega) with h | h
  · exact .inl ((mem_slot 0 y).mpr h)
  · exact .inr ((mem_slot 1 y).mpr h)

/-- The ring buffer, whole, is its two slots; -/
theorem slots_open (c : Dev nD) (f : Buf (Elt F) ((c : Thread nD τ).loc cc0_scratch0)) :
    ((c : Thread nD τ).loc cc0_scratch0 ↦{fullShare} f : sProp 𝕄) ⊢ iprop(slotAny c 0 ∗ slotAny c 1) := by
  have h : ((c : Thread nD τ).loc cc0_scratch0 ↦{fullShare} f : sProp 𝕄)
      ⊢ iprop(((c : Thread nD τ).loc cc0_scratch0 ↦[(cM.access (rC 0)).set]{fullShare} f) ∗ ((c : Thread nD τ).loc cc0_scratch0 ↦[(cM.access (rC 1)).set]{fullShare} f)) := by
    have h' := (pointsTo_union (Ix := ℕ) (Name := ℕ) (U := UU) (Lvl := ℕ) (ℓ := (c : Thread nD τ).loc cc0_scratch0) (q := fullShare) (f := f) slots_disjoint).1
    rw [slots_cover] at h'
    exact h'
  refine h.trans ?_
  unfold slotAny slotAt
  rw [← slot_set 0, ← slot_set 1]
  iintro ⟨H0, H1⟩
  isplitl [H0]
  · iexists _; iexists f
    isplitr; · ipureintro; exact rfl
    iexact H0
  · iexists _; iexists f
    isplitr; · ipureintro; exact rfl
    iexact H1

/-- and the two slots are the ring buffer. -/
theorem slots_close (c : Dev nD) :
    iprop(slotAny c 0 ∗ slotAny c 1) ⊢ (∃ f : Buf (Elt F) ((c : Thread nD τ).loc cc0_scratch0), (c : Thread nD τ).loc cc0_scratch0 ↦{fullShare} f : sProp 𝕄) := by
  unfold slotAny slotAt
  rw [← slot_set 0, ← slot_set 1]
  iintro ⟨⟨%X0, %f0, -, H0⟩, ⟨%X1, %f1, -, H1⟩⟩
  have h' := pointsTo_join (Ix := ℕ) (Name := ℕ) (U := UU) (Lvl := ℕ) (ℓ := (c : Thread nD τ).loc cc0_scratch0) (q := fullShare) (f := f0) (g := f1) slots_disjoint
  rw [slots_cover] at h'
  ihave H := h' $$ [H0 H1]
  · isplitl [H0]
    · iexact H0
    · iexact H1
  iexists _
  iexact H

/-! ## The cells and the tokens as minted -/

theorem ksem_injective : ∀ k k' : Fin 7, ksem k = ksem k' → k = k' := by decide

theorem kcell_injective : Function.Injective (kcell : Dev nD × Fin 7 → GSem nD τ sig) := by
  rintro ⟨c, k⟩ ⟨c', k'⟩ h
  have hc : c = c' := congrArg (fun g : GSem nD τ sig => g.1.1) h
  rw [hc, ksem_injective k k' (congrArg Prod.snd h)]

/-- All the ring's cells. -/
def ringCells : Finset (GSem nD τ sig) := Finset.univ.map ⟨kcell, kcell_injective⟩

/-- The duties of a device's own cells: two for each of its barriers, one for each hop's departure and arrival, one for each credit. -/
abbrev Duty : Type := Bool ⊕ Bool ⊕ Fin 62 ⊕ Fin 62 ⊕ Fin 61

/-- The cell, the round and the name of a duty, -/
def dutyOf (x : Dev nD × Duty) : GSem nD τ sig × ℕ × Bool := match x.2 with
  | .inl d => (bCell x.1, 0, d)
  | .inr (.inl d) => (dCell x.1, 0, d)
  | .inr (.inr (.inl j)) => (sCell x.1 (par j.val), j.val / 2, false)
  | .inr (.inr (.inr (.inl j))) => (vCell x.1 (par (j.val + 1)), j.val / 2, false)
  | .inr (.inr (.inr (.inr j))) => (cCell x.1, j.val, false)

/-- which give the duty back: which of the five kinds it is, and its number. -/
def kindOf : SemLoc sig → ℕ → Bool → ℕ × ℕ × Bool
  | .reg q, r, d => if q = barS then (0, 0, d) else if q = endS then (1, 0, d) else (4, r, false)
  | .dma q, r, _ => if q.val < 5 then (2, 2 * r + (q.val + 1) % 2, false) else (3, 2 * r + q.val % 2, false)

/-- The kind and the number of a duty, read off its name. -/
def kindOf' : Duty → ℕ × ℕ × Bool
  | .inl d => (0, 0, d)
  | .inr (.inl d) => (1, 0, d)
  | .inr (.inr (.inl j)) => (2, j.val, false)
  | .inr (.inr (.inr (.inl j))) => (3, j.val, false)
  | .inr (.inr (.inr (.inr j))) => (4, j.val, false)

theorem kindOf_dutyOf (x : Dev nD × Duty) : kindOf (dutyOf x).1.2 (dutyOf x).2.1 (dutyOf x).2.2 = kindOf' x.2 := by
  obtain ⟨c, d | d | j | j | j⟩ := x
  · show (if barS = barS then (0, 0, d) else if barS = endS then (1, 0, d) else (4, 0, false)) = (0, 0, d)
    exact if_pos rfl
  · show (if endS = barS then (0, 0, d) else if endS = endS then (1, 0, d) else (4, 0, false)) = (1, 0, d)
    exact (if_neg end_ne_bar).trans (if_pos rfl)
  · show (if 3 + j.val % 2 < 5 then (2, 2 * (j.val / 2) + (3 + j.val % 2 + 1) % 2, false) else (3, 2 * (j.val / 2) + (3 + j.val % 2) % 2, false)) = (2, j.val, false)
    rw [if_pos (by omega), show 2 * (j.val / 2) + (3 + j.val % 2 + 1) % 2 = j.val by omega]
  · show (if 5 + (j.val + 1) % 2 < 5 then (2, 2 * (j.val / 2) + (5 + (j.val + 1) % 2 + 1) % 2, false) else (3, 2 * (j.val / 2) + (5 + (j.val + 1) % 2) % 2, false)) = (3, j.val, false)
    rw [if_neg (by omega), show 2 * (j.val / 2) + (5 + (j.val + 1) % 2) % 2 = j.val by omega]
  · show (if crdS = barS then (0, 0, false) else if crdS = endS then (1, 0, false) else (4, j.val, false)) = (4, j.val, false)
    exact (if_neg bar_ne_crd.symm).trans (if_neg end_ne_crd.symm)

theorem kindOf'_injective : Function.Injective kindOf' := by
  rintro (d | d | j | j | j) (d' | d' | j' | j' | j') h <;>
    simp only [kindOf', Prod.mk.injEq, Fin.val_inj, true_and, and_true] at h <;>
    first
      | exact absurd h.1 (by decide)
      | rw [h]

theorem dutyOf_injective : Function.Injective dutyOf := by
  intro x y h
  have hk : x.2 = y.2 := kindOf'_injective (by rw [← kindOf_dutyOf, ← kindOf_dutyOf, h])
  have hd (z : Dev nD × Duty) : (dutyOf z).1.1.1 = z.1 := by obtain ⟨c, d | d | j | j | j⟩ := z <;> rfl
  have hc : x.1 = y.1 := by rw [← hd, ← hd, h]
  exact Prod.ext hc hk

/-- All the ring's tokens. -/
def ringToks : Finset (GSem nD τ sig × ℕ × Bool) := Finset.univ.map ⟨dutyOf, dutyOf_injective⟩

/-- Numbers below `n`, as numbers and as the elements of `Fin n`. -/
theorem bigSep_below (n : ℕ) (Φ : ℕ → sProp 𝕄) : (bigSep Finset.univ fun j : Fin n => Φ j.val) = bigSep (Finset.Ico 0 n) Φ := by
  have e : Finset.Ico 0 n = (Finset.univ : Finset (Fin n)).map Fin.valEmbedding := by
    ext i
    simp only [Finset.mem_Ico, Finset.mem_map, Finset.mem_univ, Fin.valEmbedding_apply, true_and, Nat.zero_le]
    exact ⟨fun h => ⟨⟨i, h⟩, rfl⟩, fun ⟨j, hj⟩ => hj ▸ j.isLt⟩
  rw [e, BI.bigSep_map]; rfl

/-- The tokens of device `c`'s own cells. -/
def toks (c : Dev nD) : sProp 𝕄 :=
  iprop((dutyTok ER (bCell c) 0 false ∗ dutyTok ER (bCell c) 0 true) ∗ (dutyTok ER (dCell c) 0 false ∗ dutyTok ER (dCell c) 0 true)
    ∗ (bigSep (Finset.Ico 0 62) fun j => dutyTok ER (sCell c (par j)) (j / 2) false)
    ∗ (bigSep (Finset.Ico 0 62) fun j => dutyTok ER (vCell c (par (j + 1))) (j / 2) false)
    ∗ bigSep (Finset.Ico 0 61) fun j => dutyTok ER (cCell c) j false)

/-- The tokens device `c` pays with: its own departures', its two neighbours' barriers', the next device's arrivals' and the credits' of
    the device before. -/
def payToks (c : Dev nD) : sProp 𝕄 :=
  iprop((dutyTok ER (bCell (nxt c)) 0 false ∗ dutyTok ER (bCell (prv c)) 0 true) ∗ (dutyTok ER (dCell (nxt c)) 0 false ∗ dutyTok ER (dCell (prv c)) 0 true)
    ∗ (bigSep (Finset.Ico 0 62) fun j => dutyTok ER (sCell c (par j)) (j / 2) false)
    ∗ (bigSep (Finset.Ico 0 62) fun j => dutyTok ER (vCell (nxt c) (par (j + 1))) (j / 2) false)
    ∗ bigSep (Finset.Ico 0 61) fun j => dutyTok ER (cCell (prv c)) j false)

/-- The ring of devices, as a permutation. -/
def around : Dev nD ≃ Dev nD := ⟨nxt, prv, prv_nxt, nxt_prv⟩

theorem around_nxt (Φ : Dev nD → sProp 𝕄) : bigSep Finset.univ Φ = bigSep Finset.univ fun c => Φ (nxt c) := bigSep_univ_equiv around Φ
theorem around_prv (Φ : Dev nD → sProp 𝕄) : bigSep Finset.univ Φ = bigSep Finset.univ fun c => Φ (prv c) := bigSep_univ_equiv around.symm Φ

/-- Passed one device on or back, the minted tokens are the tokens to pay with. -/
theorem toks_dealt : bigSep Finset.univ (toks (F := F)) = bigSep Finset.univ payToks := by
  unfold toks payToks
  simp only [bigSep_sep']
  rw [around_nxt fun c => (dutyTok ER (bCell c) 0 false : sProp 𝕄), around_prv fun c => (dutyTok ER (bCell c) 0 true : sProp 𝕄),
    around_nxt fun c => (dutyTok ER (dCell c) 0 false : sProp 𝕄), around_prv fun c => (dutyTok ER (dCell c) 0 true : sProp 𝕄),
    around_nxt fun c => (bigSep (Finset.Ico 0 62) fun j => dutyTok ER (vCell c (par (j + 1))) (j / 2) false : sProp 𝕄),
    around_prv fun c => (bigSep (Finset.Ico 0 61) fun j => dutyTok ER (cCell c) j false : sProp 𝕄)]

theorem bigSep_two (Φ : Bool → sProp 𝕄) : bigSep Finset.univ Φ = iprop(Φ false ∗ Φ true) :=
  bigSep_univ_eq_bigSepL [false, true] (by decide) (by decide) Φ
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The minted tokens, device by device. -/
theorem toks_minted : bigSep ringToks (fun x => (dutyTok ER x.1 x.2.1 x.2.2 : sProp 𝕄)) = bigSep Finset.univ toks := by
  unfold ringToks
  rw [bigSep_map, bigSep_univ_prod]
  refine bigSep_congr fun c _ => ?_
  rw [bigSep_univ_sum, bigSep_univ_sum, bigSep_univ_sum, bigSep_univ_sum, bigSep_two, bigSep_two]
  unfold toks
  rw [← bigSep_below, ← bigSep_below, ← bigSep_below]
  rfl

variable (X : ℕ → Dev nD → S128x2048.Idx → F .f32)

/-- What the launch gives device `c`: the start of each of its cells, and the tokens as minted. -/
def given (c : Dev nD) : sProp 𝕄 :=
  iprop((bigSep Finset.univ fun k : Fin 7 => roundState ER (sched X) (kcell (c, k)) 0)
    ∗ ((bigSep Finset.univ fun k : Fin 7 => atPos ER (kcell (c, k)) 0 ∅ 0) ∗ (bigSep Finset.univ fun k : Fin 7 => reached ER (kcell (c, k)) 0)) ∗ toks c)

theorem fund_ring : BI.own (ER (initOf ringCells ringToks)) ⊢ (|==> bigSep Finset.univ (given X) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  unfold given
  simp only [bigSep_sep']
  rw [← hX fun g => roundState ER (sched X) g 0, ← hX fun g => atPos ER g 0 ∅ 0, ← hX fun g => reached ER g 0, ← toks_minted]
  iintro H
  imod (Rounds.fund ER (sched X) ringCells ringToks) $$ H with ⟨Hst, Hr, Hat, Htok⟩
  imodintro
  isplitl [Hst]; · iexact Hst
  isplitl [Hr Hat]
  · isplitl [Hat]; · iexact Hat
    iexact Hr
  iexact Htok

/-! ## The semaphores, and the cells opened -/

/-- The kernel's own semaphores are the cells' but for the runtime's barrier. -/
abbrev osem (k : Fin 6) : SemLoc sig := ksem k.succ

theorem ownSemFacts : Pipeline.OwnSemFacts cfg0.spec osem := by decide

theorem ownSems0_eq (c : Dev nD) : (Pipeline.ownSems0 (Ix := ℕ) (Name := ℕ) (U := UU) (Lvl := ℕ) (Val := Elt F) (τ := τ) osem c : sProp 𝕄)
    = iprop(semVal (sCell c 0) 0 ∗ semVal (sCell c 1) 0 ∗ semVal (vCell c 0) 0 ∗ semVal (vCell c 1) 0 ∗ semVal (cCell c) 0 ∗ semVal (dCell c) 0) := by
  rw [Pipeline.ownSems0_eq_of_list c osem [0, 1, 2, 3, 4, 5] (by decide) (by decide)]; rfl
theorem unscopedSems0_eq (c : Dev nD) : (unscopedSems0 c : sProp 𝕄) = semVal (bCell c) 0 := by
  unfold unscopedSems0; rw [bigSep_eq_bigSepL_of_eq [SemLoc.reg barS] (by decide) (by decide)]; rfl

/-- A device's semaphores, all at zero. -/
theorem sems_eq (c : Dev nD) : cells1 (F := F) c = iprop(unscopedSems0 c ∗ Pipeline.ownSems0 osem c) := by
  rw [ownSems0_eq, unscopedSems0_eq]; rfl

/-- Each device opens its seven cells. -/
theorem cells_open (c : Dev nD) :
    iprop(Pipeline.ownSems0 (Ix := ℕ) (Name := ℕ) (U := UU) (Lvl := ℕ) (Val := Elt F) (τ := τ) osem c ∗ unscopedSems0 c ∗ given X c)
      ⊢ |={Set.univ}=> iprop((bigSep Finset.univ fun k : Fin 7 => kept X (kcell (c, k)))
          ∗ ((bigSep Finset.univ fun k : Fin 7 => atPos ER (kcell (c, k)) 0 ∅ 0) ∗ (bigSep Finset.univ fun k : Fin 7 => reached ER (kcell (c, k)) 0)) ∗ toks c) := by
  have hv : iprop(unscopedSems0 c ∗ Pipeline.ownSems0 osem c) ⊢ (bigSep Finset.univ fun k : Fin 7 => semVal (kcell (c, k)) 0 : sProp 𝕄) := by
    rw [← sems_eq, bigSep_seven]; exact Entails.refl _
  have ha : iprop((bigSep Finset.univ fun k : Fin 7 => semVal (kcell (c, k)) 0) ∗ bigSep Finset.univ fun k : Fin 7 => roundState ER (sched X) (kcell (c, k)) 0)
      ⊢ (|={Set.univ}=> bigSep Finset.univ fun k : Fin 7 => kept X (kcell (c, k)) : sProp 𝕄) := by
    rw [← bigSep_sep']
    exact (bigSep_mono fun k _ => (Rounds.body_intro ER (sched X) (kcell (c, k))).trans inv_alloc).trans (bigSep_fupd _ _)
  unfold given
  iintro ⟨Hos, Hus, Hst, Hat, Htok⟩
  ihave Hv := hv $$ [Hos Hus]
  · isplitl [Hus]; · iexact Hus
    iexact Hos
  imod ha $$ [Hv Hst] with Hk
  · isplitl [Hv]; · iexact Hv
    iexact Hst
  imodintro
  isplitl [Hk]; · iexact Hk
  isplitl [Hat]; · iexact Hat
  iexact Htok

/-- What a device then has of the ring, apart from the claims. -/
def dealt (c : Dev nD) : sProp 𝕄 := iprop(records X ∗ cells0 c ∗ payToks c)

theorem dealt_all :
    (bigSep Finset.univ fun c : Dev nD => iprop((bigSep Finset.univ fun k : Fin 7 => kept X (kcell (c, k)))
          ∗ ((bigSep Finset.univ fun k : Fin 7 => atPos ER (kcell (c, k)) 0 ∅ 0) ∗ (bigSep Finset.univ fun k : Fin 7 => reached ER (kcell (c, k)) 0)) ∗ toks c) : sProp 𝕄)
      ⊢ bigSep Finset.univ (dealt X) := by
  have hs : (bigSep Finset.univ fun c : Dev nD => bigSep Finset.univ fun k : Fin 7 => (atPos ER (kcell (c, k)) 0 ∅ 0 : sProp 𝕄)) = bigSep Finset.univ cells0 :=
    bigSep_congr fun c _ => by rw [bigSep_seven]; rfl
  simp only [bigSep_sep']
  rw [hs, toks_dealt, ← bigSep_univ_prod (fun ck : Dev nD × Fin 7 => kept X (kcell ck)), ← bigSep_univ_prod (fun ck : Dev nD × Fin 7 => (reached ER (kcell ck) 0 : sProp 𝕄))]
  unfold dealt
  iintro ⟨HK, ⟨Hat, HR⟩, Htok⟩
  simp only [bigSep_sep']
  isplitl [HK HR]
  · iapply (show records X ⊢ bigSep Finset.univ fun _ : Dev nD => records X from BI.bigSep_of_persistent Finset.univ (records X))
    unfold records
    isplitl [HK]; · iexact HK
    iexact HR
  isplitl [Hat]; · iexact Hat
  iexact Htok

/-- All devices together open their cells and deal out the tokens. -/
theorem glob :
    (bigSep Finset.univ fun c => iprop(Pipeline.ownSems0 (Ix := ℕ) (Name := ℕ) (U := UU) (Lvl := ℕ) (Val := Elt F) (τ := τ) osem c ∗ unscopedSems0 c ∗ given X c) : sProp 𝕄)
      ⊢ |={Set.univ}=> bigSep Finset.univ (dealt X) :=
  ((bigSep_mono fun c _ => cells_open X c).trans (bigSep_fupd _ _)).trans (BI.fupd_mono (dealt_all X))

/-! ## The claims -/

/-- What device `c` may claim: from each barrier two signals, from each hop an arrival, after each hop but the last a credit. -/
def claimed (c : Dev nD) : sProp 𝕄 :=
  iprop(cred (tallyAt (bCell c) 0 2) ∗ cred (tallyAt (dCell c) 0 2)
    ∗ (bigSep (Finset.Ico 0 62) fun j => cred (tallyAt (vCell c (par (j + 1))) j N)) ∗ bigSep (Finset.Ico 0 61) fun j => cred (tallyAt (cCell c) j 1))

/-- A claim from the device before and one from the next. -/
theorem claim_two (sm : SemLoc sig) (c : Dev nD) :
    iprop(Pipeline.launchCred (fun d => tallyAt ((nxt d : Thread nD τ), sm) 0 1) c ∗ Pipeline.launchCred (fun d => tallyAt ((prv d : Thread nD τ), sm) 0 1) c)
      ⊢ (cred (tallyAt ((c : Thread nD τ), sm) 0 2) : sProp 𝕄) := by
  refine (BIClass.sep_mono (Pipeline.launchCred_tallyAt sm nxt prv nxt_prv prv_nxt 0 1 c) (Pipeline.launchCred_tallyAt sm prv nxt prv_nxt nxt_prv 0 1 c)).trans ?_
  refine (cred_add _ _).2.trans ?_
  rw [tallyAt_add]

/-- The devices' debts give each its claims. -/
theorem claims (c : Dev nD) : (Pipeline.launchCred O₀ c : sProp 𝕄) ⊢ claimed c := by
  have e : (O₀ : Dev nD → CellTallies nD τ sig ℕ) = fun d => ((((tallyAt (dCell (nxt d)) 0 1 + tallyAt (dCell (prv d)) 0 1) + (∑ k ∈ Finset.Ico 0 61, tallyAt (cCell (prv d)) k 1))
      + ∑ k ∈ Finset.Ico 0 62, tallyAt (vCell (nxt d) (par (k + 1))) k N) + tallyAt (bCell (nxt d)) 0 1) + tallyAt (bCell (prv d)) 0 1 := rfl
  rw [e, Pipeline.launchCred_add, Pipeline.launchCred_add, Pipeline.launchCred_add, Pipeline.launchCred_add, Pipeline.launchCred_add,
    Pipeline.launchCred_sum, Pipeline.launchCred_sum]
  unfold claimed
  iintro ⟨⟨⟨⟨⟨Hd1, Hd2⟩, Hc⟩, Hv⟩, Hb1⟩, Hb2⟩
  isplitl [Hb1 Hb2]
  · iapply (claim_two (.reg barS) c)
    isplitl [Hb1]; · iexact Hb1
    iexact Hb2
  isplitl [Hd1 Hd2]
  · iapply (claim_two (.reg endS) c)
    isplitl [Hd1]; · iexact Hd1
    iexact Hd2
  isplitl [Hv]
  · iapply (show (bigSep (Finset.Ico 0 62) fun j => (Pipeline.launchCred (fun d => tallyAt (vCell (nxt d) (par (j + 1))) j N) c : sProp 𝕄)) ⊢ _ from
      bigSep_mono fun j _ => Pipeline.launchCred_tallyAt (.dma (rS (par (j + 1)))) nxt prv nxt_prv prv_nxt j N c)
    iexact Hv
  · iapply (show (bigSep (Finset.Ico 0 61) fun j => (Pipeline.launchCred (fun d => tallyAt (cCell (prv d)) j 1) c : sProp 𝕄)) ⊢ _ from
      bigSep_mono fun j _ => Pipeline.launchCred_tallyAt (.reg crdS) prv nxt prv_nxt nxt_prv j 1 c)
    iexact Hc

/-- Starts, tokens and claims are what the body uses up. -/
theorem ringRes_intro (c : Dev nD) : iprop(cells0 c ∗ payToks c ∗ claimed c) ⊢ ringRes (F := F) c := by
  unfold ringRes payToks claimed barRes endRes hopRes crdRes
  simp only [bigSep_sep']
  iintro ⟨Hat, ⟨⟨Hb1, Hb2⟩, ⟨Hd1, Hd2⟩, Hs, Hv, Hc⟩, Kb, Kd, Kv, Kc⟩
  isplitl [Hat]; · iexact Hat
  isplitl [Hb1 Hb2 Kb]
  · isplitl [Hb2]; · iexact Hb2
    isplitl [Hb1]; · iexact Hb1
    iexact Kb
  isplitl [Hd1 Hd2 Kd]
  · isplitl [Hd2]; · iexact Hd2
    isplitl [Hd1]; · iexact Hd1
    iexact Kd
  isplitl [Hs Hv Kv]
  · isplitl [Hs]; · iexact Hs
    isplitl [Hv]; · iexact Hv
    iexact Kv
  isplitl [Hc]; · iexact Hc
  iexact Kc

end Cert.RingProof

end
-- ==== Proof.Launch.lean ====
/-
  The launch: what each device's pipeline stages, the body between its two ends, and the run of the whole program (`run_main`), from
  any memory with its counters at zero. In the end the result's buffer of every device holds `out` of the operands as they stood, the
  operands are as they were, and every counter is at zero again.
-/
module

public import proofs.«01_k».proof.Proof.Ghost
public import Idealize.ShloMosaic.Lib.Pipeline.CollectiveSegs

@[expose] public section

noncomputable section

namespace Cert.RingProof

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The state the run starts from. -/
abbrev s₀ : MemSt nD τ sig (Elt F) := ⟨m, fun _ => 0, ρ⟩

/-- The operands of device `c` as its windows' blocks, -/
def opA (c : Dev nD) : S4096x128.Idx → F .bf16 := (win0_0.blk (0 : Fin 1)).view.read (Elt F) (m ((c : Thread nD τ).loc main_arg0))
def opB (c : Dev nD) : S128x2048.Idx → F .bf16 := (win0_1.blk (0 : Fin 1)).view.read (Elt F) (m ((c : Thread nD τ).loc main_arg1))

/-- which are the whole arrays. -/
theorem opA_eq (c : Dev nD) : opA m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz _ _
theorem opB_eq (c : Dev nD) : opB m c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz _ _

/-- What a device has of the ring before its body, and after it. -/
def before (c : Dev nD) : sProp 𝕄 := iprop(shared (opA m) (opB m) ∗ ringRes c ∗ slotAny c 0 ∗ slotAny c 1)
def after (c : Dev nD) : sProp 𝕄 := iprop(cells1 c ∗ slotAny c 0 ∗ slotAny c 1)

/-- The pipeline's data: what the windows' arrays hold, what each staging buffer holds after the body, what the body has besides, and
    what it owes. -/
def dats (_ : Fin 1) (c : Dev nD) : Dat τ (Elt F) ℕ ℕ UU ℕ cfg0 c where
  A w := m ((cfg0.win w).arr.view.loc (c : Thread nD τ))
  after w _ := match w with
    | ⟨0, _⟩ => opA m c
    | ⟨1, _⟩ => opB m c
    | ⟨2, _⟩ => out (opA m) (opB m)
  Φ t := match t with
    | ⟨0, _⟩ => before m c
    | ⟨_ + 1, _⟩ => after c
  q _ := fullShare
  owed t := match t with
    | ⟨0, _⟩ => O₀ c
    | ⟨_ + 1, _⟩ => 0

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

/-- What the body starts from, -/
def bodyPre (c : Dev nD) : sProp 𝕄 :=
  iprop(before m c ∗ (dats m 0 c).owesAt 0 Gen.t0_0.castSucc
    ∗ (∃ d, stg c cc0_stg0_0 ((dats m 0 c).before (0 : Fin 3) Gen.t0_0 d))
    ∗ (∃ d, stg c cc0_stg1_0 ((dats m 0 c).before (1 : Fin 3) Gen.t0_0 d))
    ∗ (∃ d, stg c cc0_stg2_0 ((dats m 0 c).before (2 : Fin 3) Gen.t0_0 d)))
/-- and what it comes to. -/
def bodyPost (c : Dev nD) : sProp 𝕄 :=
  iprop(after c ∗ (dats m 0 c).owesAt 0 Gen.t0_0.succ
    ∗ stg c cc0_stg0_0 (opA m c) ∗ stg c cc0_stg1_0 (opB m c) ∗ stg c cc0_stg2_0 (out (opA m) (opB m)))

/-- The body takes each operand as fetched. -/
theorem fetched (c : Dev nD) (d d') :
    (dats m 0 c).before (0 : Fin 3) Gen.t0_0 d = opA m c ∧ (dats m 0 c).before (1 : Fin 3) Gen.t0_0 d' = opB m c := by
  unfold Dat.before
  exact ⟨if_pos (Gen.fetch0_0 Gen.t0_0), if_pos (Gen.fetch0_1 Gen.t0_0)⟩

/-- The start of the body as its theorem takes it, -/
theorem body_start (c : Dev nD) : bodyPre m c ⊢ ∃ f, iprop(shared (opA m) (opB m) ∗ ringRes c ∗ slotAny c 0 ∗ slotAny c 1
    ∗ aAt c (opA m c) ∗ bAt c (opB m c) ∗ oAt c f ∗ owing c (O₀ c)) := by
  unfold bodyPre before Dat.owesAt Pipeline.owesWithin aAt bAt oAt owing
  iintro ⟨⟨Hsh, Hring, Hs0, Hs1⟩, ⟨%W, %hW, HO⟩, ⟨%d0, %g0, %hg0, HA⟩, ⟨%d1, %g1, %hg1, HB⟩, ⟨%d2, %g2, -, Hout⟩⟩
  obtain rfl := hg0.trans (fetched m c d0 d1).1
  obtain rfl := hg1.trans (fetched m c d0 d1).2
  iexists g2
  isplitl [Hsh]; · iexact Hsh
  isplitl [Hring]; · iexact Hring
  isplitl [Hs0]; · iexact Hs0
  isplitl [Hs1]; · iexact Hs1
  isplitl [HA]; · iexact HA
  isplitl [HB]; · iexact HB
  isplitl [Hout]; · iexact Hout
  iexists W
  iexact HO

/-- and its end as the pipeline takes it. -/
theorem body_end (c : Dev nD) : iprop(cells1 c ∗ slotAny c 0 ∗ slotAny c 1 ∗ aAt c (opA m c) ∗ bAt c (opB m c) ∗ oAt c (out (opA m) (opB m)) ∗ owing c 0)
    ⊢ bodyPost m c := by
  unfold bodyPost after Dat.owesAt Pipeline.owesWithin aAt bAt oAt owing
  iintro ⟨Hc, Hs0, Hs1, HA, HB, Hout, ⟨%W, HO⟩⟩
  isplitl [Hc Hs0 Hs1]
  · isplitl [Hc]; · iexact Hc
    isplitl [Hs0]; · iexact Hs0
    iexact Hs1
  isplitl [HO]
  · iexists W
    isplitr; · ipureintro; exact fun _ _ => Or.inl trivial
    iexact HO
  isplitl [HA]
  · iexists _; isplitr; · ipureintro; exact rfl
    iexact HA
  isplitl [HB]
  · iexists _; isplitr; · ipureintro; exact rfl
    iexact HB
  iexists _; isplitr; · ipureintro; exact rfl
  iexact Hout

theorem body_between (c : Dev nD) : bodyPre m c ⊢ wpC c (bodyOf c) (fun _ => bodyPost m c) := by
  refine (body_start m c).trans ?_
  iintro ⟨%f, H⟩
  iapply (show _ ⊢ wpC c (bodyOf c) (fun _ => bodyPost m c) from
    (wp_body (opA m) (opB m) c f).trans (wp_mono _ _ _ fun _ => body_end m c))
  iexact H

set_option maxRecDepth 100000 in
/-- The body of device `c` keeps the pipeline's data. -/
theorem body_obligation (c : Dev nD) : BodyObligation (dats m 0 c) (defs₀ (F := F)) Variants.none 0 Set.univ := fun t => by
  rw [show t = Gen.t0_0 from Gen.fin_N0 t]
  rw [show ∀ Φ : Fin cfg0.W → sProp 𝕄, bigSep Finset.univ Φ = iprop(Φ (0 : Fin 3) ∗ Φ (1 : Fin 3) ∗ Φ (2 : Fin 3)) from fun Φ => Gen.bigSep_W0 Φ,
    show ∀ Φ : Fin cfg0.W → sProp 𝕄, bigSep Finset.univ Φ = iprop(Φ (0 : Fin 3) ∗ Φ (1 : Fin 3) ∗ Φ (2 : Fin 3)) from fun Φ => Gen.bigSep_W0 Φ]
  simp only [owns_whole]
  show bodyPre m c ⊢ wpC c (Gen.bodyAt0 Gen.t0_0) (fun _ => bodyPost m c)
  rw [body_eq]
  unfold wpC
  rw [wp_deviceId]
  exact body_between m c

/-! ## The run -/

theorem share_eq (c : Dev nD) (w : Fin cfg0.W) : (dats m 0 c).share w = fullShare := by unfold Dat.share; split <;> rfl

/-- What the launch hands a device becomes what it has before its body, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt (val (opA m) (opB m)) c)
      ⊢ |={Set.univ}=> iprop((shared (opA m) (opB m) ∗ ringRes c) ∗ emp) := by
  unfold dealt shared
  iintro ⟨-, Hlev, Hcr, -, Hrec, Hat, Htok⟩
  ihave Hc := (claims (F := F) c) $$ Hcr
  imodintro
  isplitl
  · isplitl [Hlev Hrec]
    · isplitl [Hrec]; · iexact Hrec
      iexact Hlev
    iapply (ringRes_intro (F := F) c)
    isplitl [Hat]; · iexact Hat
    isplitl [Htok]; · iexact Htok
    iexact Hc
  · iempintro

/-- with the ring buffer; -/
theorem before_intro (c : Dev nD) :
    iprop((shared (opA m) (opB m) ∗ ringRes c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, show (Pipeline.scopedRest cfg0.spec c : sProp 𝕄) = _ from Gen.scopedRest0_eq c]
  unfold before
  iintro ⟨⟨Hsh, Hring⟩, -, ⟨%f, Hf⟩⟩
  isplitl [Hsh]; · iexact Hsh
  isplitl [Hring]; · iexact Hring
  iapply (slots_open c f) $$ Hf

/-- and what it has after its body is returned. -/
theorem after_elim (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after c from rfl, show (Pipeline.scopedRest cfg0.spec c : sProp 𝕄) = _ from Gen.scopedRest0_eq c]
  unfold after
  rw [sems_eq]
  iintro ⟨⟨Hu, Ho⟩, Hs⟩
  isplitl [Hu]; · iexact Hu
  isplitl [Ho]; · iexact Ho
  iapply (slots_close (F := F) c) $$ Hs

theorem waits (c : Dev nD) : (levAts L lv : sProp 𝕄) ⊢ Pipeline.cellsWaits cfgs (dats m) 0 0 c :=
  Pipeline.cellsWaits_intro cfgs (dats m) 0 0 c fun w s t =>
    mayWait_stage c _ (by fin_cases w <;> fin_cases s <;> decide) _ (by
      rcases t with ⟨_ | _, ht⟩
      · exact Or.inl rfl
      · exact Or.inr rfl)

/-- What the launch starts the ghost state with: the pipeline's cells and tokens, and the ring's. -/
def u₀ : UU := (initOf (Pipeline.cells cfgs Gen.cellOf_inj) (Pipeline.launchToks cfgs Gen.cellOf_inj), initOf ringCells ringToks)

/-- What the array of window `w` on device `c` holds in the end. -/
def finalA (c : Dev nD) (w : Fin cfg0.W) : Buf (Elt F) ((cfg0.win w).arr.view.loc (c : Thread nD τ)) := (dats m 0 c).arrAt w cfg0.N

set_option maxRecDepth 100000 in
/-- The program runs from any memory with its counters at zero to its windows' arrays as the pipeline's data say and its counters
    at zero. -/
theorem run_windows : θ_run defs (onTc (τ := τ) (main (F := F))) (s₀ m ρ) (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) 0 Gen.cellOf_inj (0 : Fin 1)
    Gen.winFacts0.to₀ ownSemFacts (Pipeline.PreFacts.none _) EP defs₀ Variants.none m ρ main
    (hmain := fun _ => rfl)
    (hbody := body_obligation m) (hne := fun w => by fin_cases w <;> exact Nat.succ_pos _) (harr := Gen.arr_whole0) (hstage := Gen.stage_whole0)
    (hshare := share_eq m) (hdistinct := Gen.winFacts0.arr_inj)
    (O₀ := O₀) (howed₀ := fun _ => rfl) (howedN := fun _ => rfl)
    (L := L) (lv := lv) (hL := L_of_ne) (hwaits := waits m)
    (G := given (val (opA m) (opB m))) (G' := dealt (val (opA m) (opB m))) (u₀ := u₀)
    (hu₀ := by
      unfold u₀
      iintro Hu
      ihave H := (ownU_pair _ _) $$ Hu
      icases H with ⟨HP, HX⟩
      imod (show BI.own (embR (initOf ringCells ringToks)) ⊢ (|==> bigSep Finset.univ (given (val (opA m) (opB m))) : sProp 𝕄) from fund_ring _) $$ HX with HG
      imodintro
      isplitl [HP]; · iexact HP
      iexact HG)
    (hglob := glob (val (opA m) (opB m)))
    (hA := fun _ _ => rfl) (hpf := fun _ k => k.elim0)
    (X := fun c => iprop(shared (opA m) (opB m) ∗ ringRes c)) (Y := fun c => unscopedSems0 c) (Z := fun _ => iprop(emp))
    (hX := start_intro m ρ) (hin := before_intro m) (hout := after_elim m)
    (QY := fun c s => ∀ sm : SemLoc sig, sm.isScoped .tc = false → s.sem ((c : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The operands' arrays end as they were, -/
theorem finalA_a (c : Dev nD) : finalA m c (0 : Fin 3) = m ((c : Thread nD τ).loc main_arg0) := (dats m 0 c).arrAt_in (0 : Fin 3) rfl _
theorem finalA_b (c : Dev nD) : finalA m c (1 : Fin 3) = m ((c : Thread nD τ).loc main_arg1) := (dats m 0 c).arrAt_in (1 : Fin 3) rfl _
/-- and the result's holds what the body left in its staging buffer. -/
theorem finalA_o (c : Dev nD) : finalA m c (2 : Fin 3) = out (opA m) (opB m) := by
  have hz : (fun a => (win0_2.index (0 : Fin 1)) a * main_v1.ty.shape.size a) = fun _ => 0 := funext fun a => by fin_cases a <;> decide
  have h : (win0_2.blk (0 : Fin 1)).view.read (Elt F) (finalA m c (2 : Fin 3)) = out (opA m) (opB m) := by
    unfold finalA
    rw [show cfg0.N = ((0 : Fin 1) : Fin cfg0.N).val + 1 from rfl, (dats m 0 c).arrAt_succ (2 : Fin 3) (0 : Fin 1)]
    rw [show (cfg0.win 2).flush (0 : Fin 1) = true from by decide, if_pos rfl]
    exact View.read_write_univ _ _
  rw [← h]
  exact (Memref.read_access_unit_zero (Elt F) main_v1 hz _ _).symm

/-- The operands of device `c` as they stand in memory. -/
def argA (c : Dev nD) : S4096x128.Idx → F .bf16 := m ((c : Thread nD τ).loc main_arg0)
def argB (c : Dev nD) : S128x2048.Idx → F .bf16 := m ((c : Thread nD τ).loc main_arg1)

/-- The program runs from any memory with its counters at zero. In the end every device's operands are as they were, the result of every
    device is `out` of all devices' operands, and the counters are at zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = out (argA m) (argB m)) ∧ r.2.sem = fun _ => 0) := by
  refine (θ_run defs _ _).mono (fun r h => ⟨fun c => ⟨(h.1 c (0 : Fin 3)).trans (finalA_a m c), (h.1 c (1 : Fin 3)).trans (finalA_b m c), ?_⟩, h.2⟩) (run_windows m ρ)
  have eA : argA m = opA m := funext fun d => (opA_eq m d).symm
  have eB : argB m = opB m := funext fun d => (opB_eq m d).symm
  rw [eA, eB]
  exact (h.1 c (2 : Fin 3)).trans (finalA_o m c)

end Cert.RingProof

end
-- ==== Proof.Frames.lean ====
/-
  The three frames: from any memory with its counters at zero, every run of the program ends, leaves the operands as they were and
  every counter at zero. The kernel and its ideal version are one program over any values, so one run serves both.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Launch
public import Idealize.ShloMosaic.Lib.Tactic

@[expose] public section

noncomputable section

namespace Cert.RingProof

open Idealize.ShloMosaic Idealize.SL.Sem

attribute [local instance] Cert.Kernel.Gen.facts Cert.KernelIdeal.Gen.facts Cert.ReferenceIdeal.Gen.facts

/-- The printed kernel's threads are the ideal version's, -/
theorem defs_same : Cert.Kernel.defs (F := Bits) = Cert.KernelIdeal.defs (F := Bits) := by sl_kernel_rfl
/-- and so are its devices' programs. -/
theorem main_same : Cert.Kernel.main (F := Bits) = Cert.KernelIdeal.main (F := Bits) := by sl_kernel_rfl

/-- The kernel on bit patterns ends, its operands unchanged, its counters at zero. -/
theorem frame_kernel : Cert.quiescent_Kernel := by
  intro m ρ _
  have h := (θ_run Cert.KernelIdeal.defs _ _).mono
    (fun r (h : (∀ c : Dev Cert.KernelIdeal.nD, _ ∧ _ ∧ _) ∧ _) => And.intro (fun c => And.intro (h.1 c).1 (h.1 c).2.1) h.2)
    (run_main (F := Bits) m ρ)
  rw [← defs_same, ← main_same] at h
  exact h

/-- So does the kernel on extended reals, -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- and the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RingProof

end
-- ==== Proof.Sum.lean ====
/-
  On extended reals the summed product is the whole product. A device's partial product at an index is a sum of 128 products of
  entries; a slot before hop `j` holds the sum of `j + 1` devices' partial products; at hop 31 it is the sum over all 32 devices, and
  as the devices hold consecutive blocks of the contracted axis, this is the one sum of 4096 products.
-/
module

public import proofs.«01_k».proof.Proof.Vals
public import proofs.«01_k».proof.Proof.Gen.ReferenceIdeal
public import Idealize.ShloMosaic.Lib.StackMember
public import Idealize.ShloMosaic.Lib.MatmulPlain
public import Idealize.ShloMosaic.Lib.Layout

@[expose] public section

noncomputable section

namespace Cert.RingProof

open Cert.KernelIdeal
open Cert.KernelIdeal.Facts₀ Cert.KernelIdeal.Facts
open Idealize.ShloMosaic Idealize.ShloMosaic.ValueIdx

attribute [local instance] Cert.KernelIdeal.Gen.facts Cert.ReferenceIdeal.Gen.facts

/-! ## One device's partial product -/

/-- The dimension numbers of a row block's product are a plain matrix product's, -/
theorem dotK : dot_S512x128_S128x2048_S512x2048_1_0_0_1_n_n = DotDims.plain 512 128 2048 := rfl
/-- and so are the reference's. -/
theorem dotR : Cert.ReferenceIdeal.dot_S4096x4096_S4096x2048_S4096x2048_1_0_0_1_n_n = DotDims.plain 4096 4096 2048 := rfl

/-- An index's block of 512 rows, at the index's place in it, is the index. -/
theorem rO_loc (y : S4096x2048.Idx) : (rO (7 - (y 0).val / 512)).emb (loc512 y) = y := by
  have h : (y 0).val < 4096 := (y 0).isLt
  refine ext2 ?_ ?_
  · show 512 * (7 - (7 - (y 0).val / 512)) + 1 * ((y 0).val % 512) = (y 0).val; omega
  · show 0 + 1 * (y 1).val = (y 1).val; omega

/-- A row block's product at an index is the sum of the products of its row's and its column's entries. -/
theorem mmBlock_apply (b : S128x2048.Idx → EReal) (a : S512x128.Idx → EReal) (i : S512x2048.Idx) :
    mmBlock (F := Ideal) b a i = ∑ k : Fin 128, a (ix2 (n0 := 512) (i 0) k) * b (ix2 (n1 := 2048) k (i 1)) := by
  have hz : ∀ j, constant (F := Ideal) S512x2048 .f32 0x00000000#32 j = (0 : EReal) := fun _ => Ideal.ofBits_zero_f32
  unfold mmBlock
  rw [shapeCast_self, shapeCast_self, dotK]
  conv_lhs => rw [eq_ix2 (n0 := 512) (n1 := 2048) i]
  refine (Ideal.matmul_plain_apply (φ₁ := .bf16) (φ₂ := .bf16) none a b _ _ _).trans ?_
  rw [hz]
  exact zero_add _

variable (A : Dev nD → S4096x128.Idx → EReal) (B : Dev nD → S128x2048.Idx → EReal)

/-- So is a device's partial product. -/
theorem part_apply (c : Dev nD) (y : S4096x2048.Idx) :
    part (F := Ideal) A B c y = ∑ k : Fin 128, A c (ix2 (n0 := 4096) (y 0) k) * B c (ix2 (n1 := 2048) k (y 1)) := by
  have h : (y 0).val < 4096 := (y 0).isLt
  refine (mmBlock_apply (B c) (fun i => A c ((rA (7 - (y 0).val / 512)).emb i)) (loc512 y)).trans ?_
  refine Finset.sum_congr rfl fun k _ => congrArg₂ (fun a b : EReal => a * b) (congrArg (A c) (ext2 ?_ ?_)) rfl
  · show 512 * (7 - (7 - (y 0).val / 512)) + 1 * ((y 0).val % 512) = (y 0).val; omega
  · show 0 + 1 * k.val = k.val; omega

/-! ## The sum around the ring -/

/-- The block `g` before a device's predecessor is the block `g + 1` before the device. -/
theorem gatB_prv (c : Dev nD) (g : ℕ) (hg : g < 31) : gatB (prv c) g = gatB c (g + 1) := by
  refine Fin.ext ?_
  show ((c.val + 31) % 32 + 32 - g) % 32 = (c.val + 32 - (g + 1)) % 32
  have : c.val < 32 := c.isLt
  omega

/-- Before hop `j` of the reduction a device's slot holds the sum, of the partial products of the devices up to `j` before it, of the
    rows of the block `j` before its own. -/
theorem val_sum (j : ℕ) (hj : j ≤ 31) : ∀ (c : Dev nD) (i : S128x2048.Idx),
    val (F := Ideal) A B j c i = ∑ k ∈ Finset.range (j + 1), part (F := Ideal) A B (gatB c k) (rowIx (gatB c j) i) := by
  have h0 : ∀ c : Dev nD, gatB c 0 = c := fun c => Fin.ext (by
    show (c.val + 32 - 0) % 32 = c.val
    have : c.val < 32 := c.isLt
    omega)
  induction j with
  | zero =>
    intro c i
    rw [Finset.sum_range_one, h0]
    rfl
  | succ j ih =>
    intro c i
    show (if j < 31 then addf (s := S128x2048) (val (F := Ideal) A B j (prv c)) (rows (redB c j) (part (F := Ideal) A B c))
      else val (F := Ideal) A B j (prv c)) i = _
    rw [if_pos (by omega), addf_apply, ih (by omega) (prv c) i,
      Finset.sum_range_succ' (fun k => part (F := Ideal) A B (gatB c k) (rowIx (gatB c (j + 1)) i)) (j + 1), h0, gatB_prv c j (by omega)]
    refine congrArg₂ (fun a b : EReal => a + b) (Finset.sum_congr rfl fun k hk => ?_) ?_
    · rw [gatB_prv c k (by have := Finset.mem_range.1 hk; omega)]
    · exact congrArg (fun b => part (F := Ideal) A B c (rowIx b i)) (Fin.ext (by
        show (c.val + 31 - j) % 32 = (c.val + 32 - (j + 1)) % 32
        omega))

/-- The blocks 0 to 31 before a device are all the devices, each once. -/
theorem gatB_bij (d : Dev nD) : Function.Bijective fun k : Fin 32 => gatB d k.val := by
  refine (Finite.injective_iff_bijective).1 fun k k' h => Fin.ext ?_
  have h' : (d.val + 32 - k.val) % 32 = (d.val + 32 - k'.val) % 32 := congrArg Fin.val h
  have : d.val < 32 := d.isLt
  have := k.isLt
  have := k'.isLt
  omega

/-- The summed product is the sum of all devices' partial products. -/
theorem gath_sum (y : S4096x2048.Idx) : gath (F := Ideal) A B y = ∑ c : Fin 32, part (F := Ideal) A B c y := by
  unfold gath
  rw [val_sum A B 31 le_rfl]
  have hb : gatB (prv (blkOf y)) 31 = blkOf y := Fin.ext (by
    show (((blkOf y).val + 31) % 32 + 32 - 31) % 32 = (blkOf y).val
    have := (blkOf y).isLt
    omega)
  rw [hb, rowIx_loc, Finset.sum_range]
  exact (gatB_bij (prv (blkOf y))).sum_comp fun c => part (F := Ideal) A B c y

/-! ## The whole product -/

/-- The reference's product of the whole operands. -/
abbrev whole (A' : (⟨2, ![4096, 4096]⟩ : Shape).Idx → EReal) (B' : (⟨2, ![4096, 2048]⟩ : Shape).Idx → EReal) :
    (⟨2, ![4096, 2048]⟩ : Shape).Idx → EReal :=
  Host.dotGeneral (F := Ideal) (φ₁ := .bf16) (φ₂ := .bf16)
    Cert.ReferenceIdeal.dot_S4096x4096_S4096x2048_S4096x2048_1_0_0_1_n_n none A' B'

/-- When the devices hold the blocks of the operands along the contracted axis, the summed product is the whole one. -/
theorem gath_whole (A' : (⟨2, ![4096, 4096]⟩ : Shape).Idx → EReal) (B' : (⟨2, ![4096, 2048]⟩ : Shape).Idx → EReal)
    (hA : ∀ c, A c = Layout.block ⟨2, ![4096, 128]⟩ ⟨2, ![4096, 4096]⟩ 1 32 c A')
    (hB : ∀ c, B c = Layout.block ⟨2, ![128, 2048]⟩ ⟨2, ![4096, 2048]⟩ 0 32 c B') :
    gath (F := Ideal) A B = whole A' B' := by
  funext y
  have e : whole A' B' y = ∑ K : Fin (32 * 128), A' (ix2 (y 0) K) * B' (ix2 K (y 1)) := by
    unfold whole
    rw [dotR, eq_ix2 y]
    exact StackMember.dotGeneral_plain_apply none A' B' (y 0) (y 1)
  rw [gath_sum, e, ← finProdFinEquiv.sum_comp, Fintype.sum_prod_type]
  refine Finset.sum_congr rfl fun c _ => ?_
  rw [part_apply]
  refine Finset.sum_congr rfl fun k _ => ?_
  rw [hA, hB]
  refine congrArg₂ (fun a b : EReal => a * b) (congrArg A' (ext2 rfl ?_)) (congrArg B' (ext2 ?_ rfl))
  · show c.val * 128 + k.val = k.val + 128 * c.val; omega
  · show c.val * 128 + k.val = k.val + 128 * c.val; omega

end Cert.RingProof

end
-- ==== Proof.Top.lean ====
/-
  On extended reals the kernel's largest absolute value, taken block by block from zero, is the reference's, taken over all entries
  from −∞; and the kernel's quantisation, block by block, is the reference's, entry by entry.
-/
module

public import proofs.«01_k».proof.Proof.Sum
public import Idealize.ShloMosaic.PureOps.Ideal.Laws
public import Idealize.ShloMosaic.PureOps.Reduce

@[expose] public section

noncomputable section

namespace Cert.RingProof

open Cert.KernelIdeal
open Cert.KernelIdeal.Facts₀ Cert.KernelIdeal.Facts
open Idealize.ShloMosaic Idealize.ShloMosaic.ValueIdx

attribute [local instance] Cert.KernelIdeal.Gen.facts Cert.ReferenceIdeal.Gen.facts

/-! ## The largest absolute value -/

/-- The word a maximum starts from is −∞. -/
theorem start_bot : Ideal.ofBits .f32 0xFF800000#32 = (⊥ : EReal) := by simp [Ideal.ofBits, Ideal.ieee]

/-- An absolute value is not negative. -/
theorem abs_nonneg' (a : EReal) : 0 ≤ max a (-a) := by
  rcases le_total 0 a with h | h
  · exact h.trans (le_max_left _ _)
  · exact (EReal.neg_nonneg.2 h).trans (le_max_right _ _)

/-- A bound on a maximum over a whole block is a bound on each of its entries. -/
theorem redMax_le (src : FVec Ideal S1x512x2048 .f32) (hφ : FKind.Formats .f32) (hacc) (j : S1.Idx) (x : EReal) :
    multiReduction .maximumf [1, 2] S1 src 0xFF800000#32 reduces_S1x512x2048_S1 hφ hacc j ≤ x ↔ ∀ i, src i ≤ x := by
  have hs : ∀ i j : S1.Idx, i = j := fun i j => funext fun b => Fin.ext (by
    have h : ∀ k : S1.Idx, (k b).val < 1 := fun k => by fin_cases b; exact (k 0).isLt
    have := h i
    have := h j
    omega)
  rw [multiReduction_maximumf_eq_fold, Finset.filter_true_of_mem fun i _ => hs _ _]
  refine (Finset.fold_max_le x).trans ⟨fun h i => h.2 i (Finset.mem_univ _), fun h => ⟨?_, fun i _ => h i⟩⟩
  exact le_of_eq_of_le start_bot bot_le

/-- An absolute value at an index. -/
theorem absf_at {s : Shape} (v : FVec Ideal s .f32) (i : s.Idx) : absf v i = max (v i) (-(v i)) := rfl

/-- A shape cast only renames the indices: a bound on its entries is a bound on the entries. -/
theorem cast_le {s t : Shape} (v : s.Idx → EReal) (h : s.ShapeCasts t) (x : EReal) : (∀ j, shapeCast t v h j ≤ x) ↔ ∀ i, v i ≤ x := by
  unfold shapeCast
  refine ⟨fun hj i => ?_, fun hi j => hi _⟩
  have := hj ((Shape.reshapeEquiv h).symm i)
  rwa [Equiv.apply_symm_apply] at this

/-- The one entry of a vector, taken out of the vector's cast to three axes. -/
theorem extract_cast (w : S1.Idx → EReal) (h : S1.ShapeCasts S1x1x1) (h') :
    extractAt ![0, 0, 0] (shapeCast S1x1x1 w h) h' = w (Shape.reshapeEquiv h fun a => ⟨![0, 0, 0] a, h' a⟩) := rfl

/-- A bound on a row block's largest absolute value is a bound on each of its entries'. -/
theorem blkMax_le (v : S512x2048.Idx → EReal) (x : EReal) : blkMax (F := Ideal) v ≤ x ↔ ∀ i, max (v i) (-(v i)) ≤ x := by
  unfold blkMax
  rw [shapeCast_self, extract_cast]
  refine (redMax_le _ _ _ _ x).trans ((cast_le _ _ x).trans ?_)
  exact forall_congr' fun i => by rw [absf_at]

/-- The larger of two extended reals. -/
theorem smax (a b : EReal) : Scalar.maximumf (F := Ideal) (φ := .f32) a b = max a b := rfl

/-- One more row block for `maxFrom`. -/
theorem maxFrom_succ (G : S4096x2048.Idx → EReal) (n : ℕ) (m : EReal) :
    maxFrom (F := Ideal) G (n + 1) m = maxFrom (F := Ideal) G n (max m (blkMax (F := Ideal) fun i => G ((rO n).emb i))) := by
  rw [← smax]
  rfl

/-- A bound on `maxFrom` is a bound on what it starts from and on each entry of the row blocks it runs through. -/
theorem maxFrom_le (G : S4096x2048.Idx → EReal) (x : EReal) (n : ℕ) : ∀ m : EReal,
    maxFrom (F := Ideal) G n m ≤ x ↔ m ≤ x ∧ ∀ k < n, ∀ i : S512x2048.Idx, max (G ((rO k).emb i)) (-(G ((rO k).emb i))) ≤ x := by
  induction n with
  | zero => exact fun m => ⟨fun h => ⟨h, fun _ hk => absurd hk (Nat.not_lt_zero _)⟩, fun h => h.1⟩
  | succ n ih =>
    intro m
    rw [maxFrom_succ, ih, max_le_iff, blkMax_le]
    constructor
    · rintro ⟨⟨h0, h1⟩, h2⟩
      refine ⟨h0, fun k hk => ?_⟩
      rcases Nat.lt_succ_iff_lt_or_eq.1 hk with h | rfl
      · exact h2 k h
      · exact h1
    · rintro ⟨h0, h1⟩
      exact ⟨⟨h0, h1 n (Nat.lt_succ_self n)⟩, fun k hk => h1 k (Nat.lt_succ_of_lt hk)⟩

/-- A bound on the kernel's largest absolute value is a bound on the absolute value of every entry. -/
theorem top_le (G : S4096x2048.Idx → EReal) (x : EReal) : top (F := Ideal) G ≤ x ↔ ∀ y, max (G y) (-(G y)) ≤ x := by
  unfold top
  rw [maxFrom_le]
  constructor
  · intro h y
    have := h.2 (7 - (y 0).val / 512) (by omega) (loc512 y)
    rwa [rO_loc] at this
  · intro h
    refine ⟨?_, fun k _ i => h _⟩
    show Ideal.ofBits .f32 0x00000000#32 ≤ x
    rw [Ideal.ofBits_zero_f32]
    exact (abs_nonneg' _).trans (h (ix2 0 0))

/-- The reference's largest absolute value. -/
abbrev topR (G : (⟨2, ![4096, 2048]⟩ : Shape).Idx → EReal) : (⟨0, ![]⟩ : Shape).Idx → EReal :=
  Host.reduce (FloatOps.maximumf (F := Ideal) (φ := .f32)) (Host.absf (F := Ideal) (φ := .f32) G)
    (constant (F := Ideal) Cert.ReferenceIdeal.S_ .f32 0xFF800000#32)
    Cert.ReferenceIdeal.Facts₀.reducesTo_S4096x2048_S_d0_1 Cert.ReferenceIdeal.Facts₀.h_S_

/-- The two are one. -/
theorem top_eq (G : S4096x2048.Idx → EReal) (j : (⟨0, ![]⟩ : Shape).Idx) : top (F := Ideal) G = topR G j := by
  refine eq_of_forall_ge_iff fun x => ?_
  rw [top_le]
  unfold topR
  rw [Host.reduce_eq_fold, Finset.filter_true_of_mem fun i _ => funext fun b => b.elim0]
  refine Iff.trans ?_ (Finset.fold_max_le x).symm
  exact ⟨fun h => ⟨le_of_eq_of_le start_bot bot_le, fun y _ => h y⟩, fun h y => h.2 y (Finset.mem_univ y)⟩

/-! ## The quantisation -/

/-- One entry, quantised at scale `s` and scaled back. -/
def quantAt (s g : EReal) : EReal :=
  min (Ideal.ofBits .f32 0x42FE0000#32) (max (Ideal.ofBits .f32 0xC2FE0000#32) (Ideal.liftRound Ideal.roundHalfEven (Ideal.div g s))) * s

/-- A row block is quantised entry by entry, -/
theorem quantBlk_apply (s : EReal) (v : S512x2048.Idx → EReal) (i : S512x2048.Idx) : quantBlk (F := Ideal) s v i = quantAt s (v i) := by
  unfold quantBlk
  rw [shapeCast_self]
  rfl

/-- and so is the whole. -/
theorem quant_apply (s : EReal) (G : S4096x2048.Idx → EReal) (y : S4096x2048.Idx) : quant (F := Ideal) s G y = quantAt s (G y) :=
  (quantBlk_apply s (fun i => G ((rO (7 - (y 0).val / 512)).emb i)) (loc512 y)).trans (congrArg (fun z => quantAt s (G z)) (rO_loc y))

end Cert.RingProof

end
-- ==== Proof.Value.lean ====
/-
  The value claim: the kernel's result, on every device, is the reference's result of the whole operands, when each device holds its
  block of columns of the first operand and its block of rows of the second.
-/
module

public import proofs.«01_k».proof.Defs
public import proofs.«01_k».proof.Proof.Gen.ReferenceIdeal.Run
public import proofs.«01_k».proof.Proof.Launch
public import proofs.«01_k».proof.Proof.Top

@[expose] public section

noncomputable section

namespace Cert.RingProof

open Idealize.ShloMosaic Idealize.SL.Sem

attribute [local instance] Cert.KernelIdeal.Gen.facts Cert.ReferenceIdeal.Gen.facts

/-- The reference's result of the operands `A'` and `B'`: the product, quantised entry by entry at one 127th of its largest absolute
    value and scaled back. -/
def result (A' : (⟨2, ![4096, 4096]⟩ : Shape).Idx → EReal) (B' : (⟨2, ![4096, 2048]⟩ : Shape).Idx → EReal) :
    (⟨2, ![4096, 2048]⟩ : Shape).Idx → EReal := fun y =>
  quantAt (Ideal.div (topR (whole A' B') fun a => a.elim0) (Ideal.ofBits .f32 0x42FE0000#32)) (whole A' B' y)

/-- The kernel computes it from the blocks. -/
theorem out_eq (A : Dev Cert.KernelIdeal.nD → Cert.KernelIdeal.S4096x128.Idx → EReal)
    (B : Dev Cert.KernelIdeal.nD → Cert.KernelIdeal.S128x2048.Idx → EReal)
    (A' : (⟨2, ![4096, 4096]⟩ : Shape).Idx → EReal) (B' : (⟨2, ![4096, 2048]⟩ : Shape).Idx → EReal)
    (hA : ∀ c, A c = Layout.block ⟨2, ![4096, 128]⟩ ⟨2, ![4096, 4096]⟩ 1 32 c A')
    (hB : ∀ c, B c = Layout.block ⟨2, ![128, 2048]⟩ ⟨2, ![4096, 2048]⟩ 0 32 c B') :
    out (F := Ideal) A B = result A' B' := by
  funext y
  unfold out result
  rw [quant_apply, gath_whole A B A' B' hA hB, top_eq _ fun a => a.elim0]
  rfl

/-- The reference computes it from the whole operands. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread Cert.ReferenceIdeal.nD Cert.ReferenceIdeal.τ).loc Cert.ReferenceIdeal.main_v9)
          = result (m (c.tc.loc Cert.ReferenceIdeal.main_arg0)) (m (c.tc.loc Cert.ReferenceIdeal.main_arg1))
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1) := by
  refine (θ_run _ _ _).mono (fun r h c => ⟨(h c).1.trans ?_, (h c).2⟩) (Cert.ReferenceIdeal.Value.run (F := Ideal) m ρ)
  funext y
  unfold result
  rfl

/-- The kernel's result is the reference's. -/
theorem value : Cert.algebraic_KernelIdeal_ReferenceIdeal := by
  intro m g m' g' _ hargs
  refine ⟨result (m' ((0 : Dev Cert.ReferenceIdeal.nD).tc.loc Cert.ReferenceIdeal.main_arg0))
    (m' ((0 : Dev Cert.ReferenceIdeal.nD).tc.loc Cert.ReferenceIdeal.main_arg1)), ?_, ?_⟩
  · refine (θ_run Cert.KernelIdeal.defs _ _).mono (fun _ h c => ⟨(h.1 c).2.2.trans ?_, (h.1 c).1, (h.1 c).2.1⟩) (run_main (F := Ideal) m g)
    exact out_eq _ _ _ _ (fun c => (hargs c).1) (fun c => (hargs c).2)
  · exact (θ_run Cert.ReferenceIdeal.defs _ _).mono (fun _ h => h 0) (ref_run m' g')

end Cert.RingProof

end
-- ==== Proof.lean ====
/-
  The proof of `Cert.Claim`: the three frames (`Proof/Frames.lean`) and the value claim (`Proof/Value.lean`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

/-- Every claim holds. -/
theorem claim : Cert.Claim :=
  ⟨Cert.Kernel.Gen.facts, Cert.KernelIdeal.Gen.facts, Cert.ReferenceIdeal.Gen.facts,
    Cert.RingProof.frame_kernel, Cert.RingProof.frame_ideal, Cert.RingProof.frame_reference, trivial, Cert.RingProof.value⟩

end Cert.Proof

end
